-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S2600x1280 : Shape := ⟨2, ![2600, 1280]⟩
abbrev S1280x640 : Shape := ⟨2, ![1280, 640]⟩
abbrev S11000x640 : Shape := ⟨2, ![11000, 640]⟩
abbrev S80x256x8 : Shape := ⟨3, ![80, 256, 8]⟩
abbrev S2600x5 : Shape := ⟨2, ![2600, 5]⟩
abbrev S_ : Shape := ⟨0, ![]⟩

class Facts : Prop where
  bcast_S_S2600x5 : S_.BroadcastsInDim S2600x5 (![] : Fin 0 → Fin S2600x5.rank)
  reducesTo_S2600x5_S_d0_1 : S2600x5.ReducesTo [0, 1] S_
  h_S_ : 0 < S_.numel

variable [Facts]

def fn {F : FTy → Type} [FloatOps F] (main_arg0 : FVec F S2600x1280 .bf16) (main_arg1 : FVec F S1280x640 .bf16) (main_arg2 : FVec F S11000x640 .f32) (main_arg3 : FVec F S80x256x8 .bf16) (main_arg4 : IVec S2600x5 32) : IVec S_ 1 :=
  let main_c : IVec S_ 32 := constantI S_ 32 0#32
  let main_v0 : IVec S2600x5 32 := broadcastInDim S2600x5 ![] bcast_S_S2600x5 main_c
  let main_v1 : IVec S2600x5 1 := cmpi .sge main_arg4 main_v0
  let main_c_0 : IVec S_ 32 := constantI S_ 32 11000#32
  let main_v2 : IVec S2600x5 32 := broadcastInDim S2600x5 ![] bcast_S_S2600x5 main_c_0
  let main_v3 : IVec S2600x5 1 := cmpi .slt main_arg4 main_v2
  let main_v4 : IVec S2600x5 1 := andi main_v1 main_v3
  let main_c_1 : IVec S_ 1 := constantI S_ 1 1#1
  let main_v5 : IVec S_ 1 := (fun x v => Host.reduce IntOp.andi x v reducesTo_S2600x5_S_d0_1 h_S_) main_v4 main_c_1
  main_v5
-- ==== Kernel.lean ====
abbrev S2600x1280 : Shape := ⟨2, ![2600, 1280]⟩
abbrev S1280x640 : Shape := ⟨2, ![1280, 640]⟩
abbrev S11000x640 : Shape := ⟨2, ![11000, 640]⟩
abbrev S80x256x8 : Shape := ⟨3, ![80, 256, 8]⟩
abbrev S2600x5 : Shape := ⟨2, ![2600, 5]⟩
abbrev S80x8x256 : Shape := ⟨3, ![80, 8, 256]⟩
abbrev S640x256 : Shape := ⟨2, ![640, 256]⟩
abbrev S13000 : Shape := ⟨1, ![13000]⟩
abbrev S25x5x104 : Shape := ⟨3, ![25, 5, 104]⟩
abbrev S2600x80x256 : Shape := ⟨3, ![2600, 80, 256]⟩
abbrev S2600x640 : Shape := ⟨2, ![2600, 640]⟩
abbrev S104x1280 : Shape := ⟨2, ![104, 1280]⟩
abbrev S1x5x104 : Shape := ⟨3, ![1, 5, 104]⟩
abbrev S104x80x256 : Shape := ⟨3, ![104, 80, 256]⟩
abbrev S104x640 : Shape := ⟨2, ![104, 640]⟩
abbrev S104x8x128 : Shape := ⟨3, ![104, 8, 128]⟩
abbrev S16x8x640 : Shape := ⟨3, ![16, 8, 640]⟩
abbrev S16 : Shape := ⟨1, ![16]⟩
abbrev S1 : Shape := ⟨1, ![1]⟩
abbrev S_ : Shape := ⟨0, ![]⟩
abbrev S1x1x640 : Shape := ⟨3, ![1, 1, 640]⟩
abbrev S1x640 : Shape := ⟨2, ![1, 640]⟩
abbrev S8x640 : Shape := ⟨2, ![8, 640]⟩
abbrev S32x256 : Shape := ⟨2, ![32, 256]⟩
abbrev S1x256 : Shape := ⟨2, ![1, 256]⟩
abbrev S256x256 : Shape := ⟨2, ![256, 256]⟩
abbrev S1x32x256 : Shape := ⟨3, ![1, 32, 256]⟩
abbrev S16x128 : Shape := ⟨2, ![16, 128]⟩
abbrev S1x128 : Shape := ⟨2, ![1, 128]⟩
abbrev S128x128 : Shape := ⟨2, ![128, 128]⟩
abbrev S128x256 : Shape := ⟨2, ![128, 256]⟩
abbrev S16x256 : Shape := ⟨2, ![16, 256]⟩
abbrev S1x16x256 : Shape := ⟨3, ![1, 16, 256]⟩
abbrev S1x5x640 : Shape := ⟨3, ![1, 5, 640]⟩
abbrev S5x640 : Shape := ⟨2, ![5, 640]⟩
abbrev S5x128 : Shape := ⟨2, ![5, 128]⟩
abbrev S1x5x128 : Shape := ⟨3, ![1, 5, 128]⟩
abbrev S104x1x128 : Shape := ⟨3, ![104, 1, 128]⟩
abbrev S104x128 : Shape := ⟨2, ![104, 128]⟩
abbrev S128x104 : Shape := ⟨2, ![128, 104]⟩
abbrev S104 : Shape := ⟨1, ![104]⟩
abbrev S1x104 : Shape := ⟨2, ![1, 104]⟩
abbrev S1x1x104 : Shape := ⟨3, ![1, 1, 104]⟩

abbrev nBuf : Space → Nat
  | .hbm => 10
  | .vmem => 13
  | .smem => 1
  | _ => 0

abbrev bufTy : (tb : Table) → Fin (tcTables nBuf tb) → BufTy
  | .hbm, ⟨0, _⟩ => ⟨S2600x1280, .bf16⟩
  | .hbm, ⟨1, _⟩ => ⟨S1280x640, .bf16⟩
  | .hbm, ⟨2, _⟩ => ⟨S11000x640, .f32⟩
  | .hbm, ⟨3, _⟩ => ⟨S80x256x8, .bf16⟩
  | .hbm, ⟨4, _⟩ => ⟨S2600x5, .i32⟩
  | .hbm, ⟨5, _⟩ => ⟨S80x8x256, .bf16⟩
  | .hbm, ⟨6, _⟩ => ⟨S640x256, .bf16⟩
  | .hbm, ⟨7, _⟩ => ⟨S25x5x104, .f32⟩
  | .hbm, ⟨8, _⟩ => ⟨S2600x80x256, .f32⟩
  | .hbm, ⟨9, _⟩ => ⟨S2600x640, .bf16⟩
  | .local _ .vmem, ⟨0, _⟩ => ⟨S104x1280, .bf16⟩
  | .local _ .vmem, ⟨1, _⟩ => ⟨S104x1280, .bf16⟩
  | .local _ .vmem, ⟨2, _⟩ => ⟨S1280x640, .bf16⟩
  | .local _ .vmem, ⟨3, _⟩ => ⟨S640x256, .bf16⟩
  | .local _ .vmem, ⟨4, _⟩ => ⟨S1x5x104, .f32⟩
  | .local _ .vmem, ⟨5, _⟩ => ⟨S1x5x104, .f32⟩
  | .local _ .vmem, ⟨6, _⟩ => ⟨S104x80x256, .f32⟩
  | .local _ .vmem, ⟨7, _⟩ => ⟨S104x80x256, .f32⟩
  | .local _ .vmem, ⟨8, _⟩ => ⟨S104x640, .bf16⟩
  | .local _ .vmem, ⟨9, _⟩ => ⟨S104x640, .bf16⟩
  | .local _ .vmem, ⟨10, _⟩ => ⟨S104x640, .f32⟩
  | .local _ .vmem, ⟨11, _⟩ => ⟨S104x8x128, .f32⟩
  | .local _ .vmem, ⟨12, _⟩ => ⟨S16x8x640, .f32⟩
  | .local _ .smem, ⟨0, _⟩ => ⟨S13000, .i32⟩
  | _, _ => ⟨S2600x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c16_i32 : BitVec 32 := 16#32
  let v54 : BitVec 32 := Scalar.addi c0_i32_44 c16_i32
  let c1_i32_45 : BitVec 32 := 1#32
  ⟨c0_i32_44, v54, c1_i32_45⟩
def k0_off1 (k0_t1 : Fin k0_t1_loop.trips) (c0_i32_48 : BitVec 32) : Fin 1 → Nat :=
  let c0_i32_44 : BitVec 32 := 0#32
  let c1_i32_45 : BitVec 32 := 1#32
  let arg13 : BitVec 32 := Scf.iv c0_i32_44 c1_i32_45 k0_t1
  let c5_i32 : BitVec 32 := 5#32
  let v56 : BitVec 32 := Scalar.muli arg13 c5_i32
  let v57 : BitVec 32 := Scalar.addi v56 c0_i32_48
  let v58 : Index := Scalar.indexCast v57
  ![v58.toNat]
def k0_off2 (k0_t1 : Fin k0_t1_loop.trips) : Fin 1 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  ![v55.toNat]
def k0_off3 (k0_t1 : Fin k0_t1_loop.trips) : Fin 3 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  let c0_i32_54 : BitVec 32 := 0#32
  let c0_i32_55 : BitVec 32 := 0#32
  ![v55.toNat, 0, 0]
def k0_off4 (v59 : BitVec 32) : Fin 2 → Nat :=
  let c0_i32_56 : BitVec 32 := 0#32
  ![v59.toNat, 0]

def k0_chk1 (i : grid0.Coords) (v59 : BitVec 32) : Prop :=
  (∀ (k0_h1 : k0_cond1 i = 1#1), ∀ a, (k0_off4 v59) a + S1x640.size a ≤ S11000x640.size a)
theorem k0_off4_inb : ∀ (i : grid0.Coords) (v59 : BitVec 32) (k0_hw1 : k0_chk1 i v59), ∀ (k0_h1 : k0_cond1 i = 1#1), ∀ a, (k0_off4 v59) a + S1x640.size a ≤ S11000x640.size a := fun i v59 k0_hw1 k0_h1 => k0_hw1 k0_h1

def k0_off5 (k0_t1 : Fin k0_t1_loop.trips) : Fin 1 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  ![v55.toNat]
def k0_off6 (k0_t1 : Fin k0_t1_loop.trips) : Fin 3 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  let c1_i32_57 : BitVec 32 := 1#32
  let c0_i32_58 : BitVec 32 := 0#32
  ![v55.toNat, 1, 0]
def k0_off7 (v63 : BitVec 32) : Fin 2 → Nat :=
  let c0_i32_59 : BitVec 32 := 0#32
  ![v63.toNat, 0]

def k0_chk2 (i : grid0.Coords) (v63 : BitVec 32) : Prop :=
  (∀ (k0_h1 : k0_cond1 i = 1#1), ∀ a, (k0_off7 v63) a + S1x640.size a ≤ S11000x640.size a)
theorem k0_off7_inb : ∀ (i : grid0.Coords) (v63 : BitVec 32) (k0_hw2 : k0_chk2 i v63), ∀ (k0_h1 : k0_cond1 i = 1#1), ∀ a, (k0_off7 v63) a + S1x640.size a ≤ S11000x640.size a := fun i v63 k0_hw2 k0_h1 => k0_hw2 k0_h1

def k0_off8 (k0_t1 : Fin k0_t1_loop.trips) : Fin 1 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  ![v55.toNat]
def k0_off9 (k0_t1 : Fin k0_t1_loop.trips) : Fin 3 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  let c2_i32_60 : BitVec 32 := 2#32
  let c0_i32_61 : BitVec 32 := 0#32
  ![v55.toNat, 2, 0]
def k0_off10 (v67 : BitVec 32) : Fin 2 → Nat :=
  let c0_i32_62 : BitVec 32 := 0#32
  ![v67.toNat, 0]

def k0_chk3 (i : grid0.Coords) (v67 : BitVec 32) : Prop :=
  (∀ (k0_h1 : k0_cond1 i = 1#1), ∀ a, (k0_off10 v67) a + S1x640.size a ≤ S11000x640.size a)
theorem k0_off10_inb : ∀ (i : grid0.Coords) (v67 : BitVec 32) (k0_hw3 : k0_chk3 i v67), ∀ (k0_h1 : k0_cond1 i = 1#1), ∀ a, (k0_off10 v67) a + S1x640.size a ≤ S11000x640.size a := fun i v67 k0_hw3 k0_h1 => k0_hw3 k0_h1

def k0_off11 (k0_t1 : Fin k0_t1_loop.trips) : Fin 1 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  ![v55.toNat]
def k0_off12 (k0_t1 : Fin k0_t1_loop.trips) : Fin 3 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  let c3_i32_63 : BitVec 32 := 3#32
  let c0_i32_64 : BitVec 32 := 0#32
  ![v55.toNat, 3, 0]
def k0_off13 (v71 : BitVec 32) : Fin 2 → Nat :=
  let c0_i32_65 : BitVec 32 := 0#32
  ![v71.toNat, 0]

def k0_chk4 (i : grid0.Coords) (v71 : BitVec 32) : Prop :=
  (∀ (k0_h1 : k0_cond1 i = 1#1), ∀ a, (k0_off13 v71) a + S1x640.size a ≤ S11000x640.size a)
theorem k0_off13_inb : ∀ (i : grid0.Coords) (v71 : BitVec 32) (k0_hw4 : k0_chk4 i v71), ∀ (k0_h1 : k0_cond1 i = 1#1), ∀ a, (k0_off13 v71) a + S1x640.size a ≤ S11000x640.size a := fun i v71 k0_hw4 k0_h1 => k0_hw4 k0_h1

def k0_off14 (k0_t1 : Fin k0_t1_loop.trips) : Fin 1 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  ![v55.toNat]
def k0_off15 (k0_t1 : Fin k0_t1_loop.trips) : Fin 3 → Nat :=
  let c0_i32_44 : BitVec 32 := 0#32
  let c1_i32_45 : BitVec 32 := 1#32
  let arg13 : BitVec 32 := Scf.iv c0_i32_44 c1_i32_45 k0_t1
  let c16_i32_47 : BitVec 32 := 16#32
  let v55 : BitVec 32 := Scalar.remsi arg13 c16_i32_47
  let c4_i32_66 : BitVec 32 := 4#32
  let c0_i32_67 : BitVec 32 := 0#32
  ![v55.toNat, 4, 0]
def k0_off16 (v75 : BitVec 32) : Fin 2 → Nat :=
  let c0_i32_68 : BitVec 32 := 0#32
  ![v75.toNat, 0]

def k0_chk5 (i : grid0.Coords) (v75 : BitVec 32) : Prop :=
  (∀ (k0_h1 : k0_cond1 i = 1#1), ∀ a, (k0_off16 v75) a + S1x640.size a ≤ S11000x640.size a)
theorem k0_off16_inb : ∀ (i : grid0.Coords) (v75 : BitVec 32) (k0_hw5 : k0_chk5 i v75), ∀ (k0_h1 : k0_cond1 i = 1#1), ∀ a, (k0_off16 v75) a + S1x640.size a ≤ S11000x640.size a := fun i v75 k0_hw5 k0_h1 => k0_hw5 k0_h1

@[reducible] def k0_t2_loop : Scf.Loop 32 :=
  let c0_i32_8 : BitVec 32 := 0#32
  let c13_i32 : BitVec 32 := 13#32
  let v12 : BitVec 32 := Scalar.addi c0_i32_8 c13_i32
  let c1_i32 : BitVec 32 := 1#32
  ⟨c0_i32_8, v12, c1_i32⟩
def k0_mult1 (k0_t2 : Fin k0_t2_loop.trips) : BitVec 32 :=
  let c0_i32_8 : BitVec 32 := 0#32
  let c1_i32 : BitVec 32 := 1#32
  let arg13 : BitVec 32 := Scf.iv c0_i32_8 c1_i32 k0_t2
  let c8_i32 : BitVec 32 := 8#32
  let v54 : BitVec 32 := Scalar.muli arg13 c8_i32
  v54
def k0_off17 (k0_t2 : Fin k0_t2_loop.trips) : Fin 2 → Nat :=
  let c0_i32_8 : BitVec 32 := 0#32
  let c1_i32 : BitVec 32 := 1#32
  let arg13 : BitVec 32 := Scf.iv c0_i32_8 c1_i32 k0_t2
  let c8_i32 : BitVec 32 := 8#32
  let v54 : BitVec 32 := Scalar.muli arg13 c8_i32
  let v55 : BitVec 32 := v54
  let v56 : Index := Scalar.indexCast v55
  let c0_44 : Index := 0#32
  ![v56.toNat, 0]
def k0_off18 (k0_t2 : Fin k0_t2_loop.trips) (c0_i32_64 : BitVec 32) : Fin 3 → Nat :=
  let c0_i32_8 : BitVec 32 := 0#32
  let c1_i32 : BitVec 32 := 1#32
  let arg13 : BitVec 32 := Scf.iv c0_i32_8 c1_i32 k0_t2
  let c8_i32 : BitVec 32 := 8#32
  let v54 : BitVec 32 := Scalar.muli arg13 c8_i32
  let v55 : BitVec 32 := v54
  let v133 : BitVec 32 := Scalar.addi v55 c0_i32_64
  let v134 : Index := Scalar.indexCast v133
  let c0_65 : Index := 0#32
  let c0_66 : Index := 0#32
  ![v134.toNat, 0, 0]
def k0_off19 (k0_t2 : Fin k0_t2_loop.trips) (c0_i32_100 : BitVec 32) : Fin 3 → Nat :=
  let c0_i32_8 : BitVec 32 := 0#32
  let c1_i32 : BitVec 32 := 1#32
  let arg13 : BitVec 32 := Scf.iv c0_i32_8 c1_i32 k0_t2
  let c8_i32 : BitVec 32 := 8#32
  let v54 : BitVec 32 := Scalar.muli arg13 c8_i32
  let v55 : BitVec 32 := v54
  let v255 : BitVec 32 := Scalar.addi v55 c0_i32_100
  let v256 : Index := Scalar.indexCast v255
  let c32 : Index := 32#32
  let c0_101 : Index := 0#32
  ![v256.toNat, 32, 0]
def k0_off20 (k0_t2 : Fin k0_t2_loop.trips) (c0_i32_141 : BitVec 32) : Fin 3 → Nat :=
  let c0_i32_8 : BitVec 32 := 0#32
  let c1_i32 : BitVec 32 := 1#32
  let arg13 : BitVec 32 := Scf.iv c0_i32_8 c1_i32 k0_t2
  let c8_i32 : BitVec 32 := 8#32
  let v54 : BitVec 32 := Scalar.muli arg13 c8_i32
  let v55 : BitVec 32 := v54
  let v377 : BitVec 32 := Scalar.addi v55 c0_i32_141
  let v378 : Index := Scalar.indexCast v377
  let c64 : Index := 64#32
  let c0_142 : Index := 0#32
  ![v378.toNat, 64, 0]
@[reducible] def k0_t3_loop : Scf.Loop 32 :=
  let c0_i32_10 : BitVec 32 := 0#32
  let c104_i32 : BitVec 32 := 104#32
  let v13 : BitVec 32 := Scalar.addi c0_i32_10 c104_i32
  let c1_i32_11 : BitVec 32 := 1#32
  ⟨c0_i32_10, v13, c1_i32_11⟩
def k0_off21 (i : grid0.Coords) (k0_t3 : Fin k0_t3_loop.trips) (c0_i32_46 : BitVec 32) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c5_i32 : BitVec 32 := 5#32
  let v58 : BitVec 32 := Scalar.muli v55 c5_i32
  let v59 : BitVec 32 := Scalar.addi v58 c0_i32_46
  let v60 : Index := Scalar.indexCast v59
  ![v60.toNat]
def k0_off22 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  ![v57.toNat]
def k0_off23 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  let c0_i32_52 : BitVec 32 := 0#32
  let c0_i32_53 : BitVec 32 := 0#32
  ![v57.toNat, 0, 0]
def k0_off24 (v61 : BitVec 32) : Fin 2 → Nat :=
  let c0_i32_54 : BitVec 32 := 0#32
  ![v61.toNat, 0]

def k0_chk6 (v61 : BitVec 32) : Prop :=
  (∀ a, (k0_off24 v61) a + S1x640.size a ≤ S11000x640.size a)
theorem k0_off24_inb : ∀ (v61 : BitVec 32) (k0_hw6 : k0_chk6 v61), ∀ a, (k0_off24 v61) a + S1x640.size a ≤ S11000x640.size a := fun v61 k0_hw6 => k0_hw6

def k0_off25 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  ![v57.toNat]
def k0_off26 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  let c1_i32_55 : BitVec 32 := 1#32
  let c0_i32_56 : BitVec 32 := 0#32
  ![v57.toNat, 1, 0]
def k0_off27 (v65 : BitVec 32) : Fin 2 → Nat :=
  let c0_i32_57 : BitVec 32 := 0#32
  ![v65.toNat, 0]

def k0_chk7 (v65 : BitVec 32) : Prop :=
  (∀ a, (k0_off27 v65) a + S1x640.size a ≤ S11000x640.size a)
theorem k0_off27_inb : ∀ (v65 : BitVec 32) (k0_hw7 : k0_chk7 v65), ∀ a, (k0_off27 v65) a + S1x640.size a ≤ S11000x640.size a := fun v65 k0_hw7 => k0_hw7

def k0_off28 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  ![v57.toNat]
def k0_off29 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  let c2_i32_58 : BitVec 32 := 2#32
  let c0_i32_59 : BitVec 32 := 0#32
  ![v57.toNat, 2, 0]
def k0_off30 (v69 : BitVec 32) : Fin 2 → Nat :=
  let c0_i32_60 : BitVec 32 := 0#32
  ![v69.toNat, 0]

def k0_chk8 (v69 : BitVec 32) : Prop :=
  (∀ a, (k0_off30 v69) a + S1x640.size a ≤ S11000x640.size a)
theorem k0_off30_inb : ∀ (v69 : BitVec 32) (k0_hw8 : k0_chk8 v69), ∀ a, (k0_off30 v69) a + S1x640.size a ≤ S11000x640.size a := fun v69 k0_hw8 => k0_hw8

def k0_off31 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  ![v57.toNat]
def k0_off32 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  let c3_i32_61 : BitVec 32 := 3#32
  let c0_i32_62 : BitVec 32 := 0#32
  ![v57.toNat, 3, 0]
def k0_off33 (v73 : BitVec 32) : Fin 2 → Nat :=
  let c0_i32_63 : BitVec 32 := 0#32
  ![v73.toNat, 0]

def k0_chk9 (v73 : BitVec 32) : Prop :=
  (∀ a, (k0_off33 v73) a + S1x640.size a ≤ S11000x640.size a)
theorem k0_off33_inb : ∀ (v73 : BitVec 32) (k0_hw9 : k0_chk9 v73), ∀ a, (k0_off33 v73) a + S1x640.size a ≤ S11000x640.size a := fun v73 k0_hw9 => k0_hw9

def k0_off34 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  ![v57.toNat]
def k0_off35 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_45 : BitVec 32 := 16#32
  let v57 : BitVec 32 := Scalar.remsi v55 c16_i32_45
  let c4_i32_64 : BitVec 32 := 4#32
  let c0_i32_65 : BitVec 32 := 0#32
  ![v57.toNat, 4, 0]
def k0_off36 (v77 : BitVec 32) : Fin 2 → Nat :=
  let c0_i32_66 : BitVec 32 := 0#32
  ![v77.toNat, 0]

def k0_chk10 (v77 : BitVec 32) : Prop :=
  (∀ a, (k0_off36 v77) a + S1x640.size a ≤ S11000x640.size a)
theorem k0_off36_inb : ∀ (v77 : BitVec 32) (k0_hw10 : k0_chk10 v77), ∀ a, (k0_off36 v77) a + S1x640.size a ≤ S11000x640.size a := fun v77 k0_hw10 => k0_hw10

def k0_off37 (k0_t3 : Fin k0_t3_loop.trips) : Fin 2 → Nat :=
  let c0_i32_10 : BitVec 32 := 0#32
  let c1_i32_11 : BitVec 32 := 1#32
  let arg13 : BitVec 32 := Scf.iv c0_i32_10 c1_i32_11 k0_t3
  let v103 : Index := Scalar.indexCast arg13
  let c0_67 : Index := 0#32
  ![v103.toNat, 0]
def k0_off38 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32 : BitVec 32 := 16#32
  let v56 : BitVec 32 := Scalar.remsi v55 c16_i32
  let v105 : Index := Scalar.indexCast v56
  let c0_68 : Index := 0#32
  let c0_69 : Index := 0#32
  ![v105.toNat, 0, 0]
def k0_off39 (k0_t3 : Fin k0_t3_loop.trips) : Fin 3 → Nat :=
  let c0_i32_10 : BitVec 32 := 0#32
  let c1_i32_11 : BitVec 32 := 1#32
  let arg13 : BitVec 32 := Scf.iv c0_i32_10 c1_i32_11 k0_t3
  let v120 : Index := Scalar.indexCast arg13
  let c0_70 : Index := 0#32
  let c0_71 : Index := 0#32
  ![v120.toNat, 0, 0]
def k0_cond2 (i : grid0.Coords) (k0_t3 : Fin k0_t3_loop.trips) : BitVec 1 :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_72 : BitVec 32 := 16#32
  let v124 : BitVec 32 := Scalar.addi v55 c16_i32_72
  let c2600_i32 : BitVec 32 := 2600#32
  let v125 : BitVec 1 := Scalar.cmpi .slt v124 c2600_i32
  let v126 : BitVec 32 := Scalar.extui v125
  let c0_i32_73 : BitVec 32 := 0#32
  let v127 : BitVec 1 := Scalar.cmpi .ne v126 c0_i32_73
  v127

def k0_off40 (i : grid0.Coords) (k0_t3 : Fin k0_t3_loop.trips) (c0_i32_77 : BitVec 32) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c5_i32_76 : BitVec 32 := 5#32
  let v130 : BitVec 32 := Scalar.muli v128 c5_i32_76
  let v131 : BitVec 32 := Scalar.addi v130 c0_i32_77
  let v132 : Index := Scalar.indexCast v131
  ![v132.toNat]
def k0_off41 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  ![v129.toNat]
def k0_off42 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  let c0_i32_86 : BitVec 32 := 0#32
  let c0_i32_87 : BitVec 32 := 0#32
  ![v129.toNat, 0, 0]
def k0_off43 (v133 : BitVec 32) : Fin 2 → Nat :=
  let c0_i32_88 : BitVec 32 := 0#32
  ![v133.toNat, 0]

def k0_chk11 (i : grid0.Coords) (k0_t3 : Fin k0_t3_loop.trips) (v133 : BitVec 32) : Prop :=
  (∀ (k0_h2 : k0_cond2 i k0_t3 = 1#1), ∀ a, (k0_off43 v133) a + S1x640.size a ≤ S11000x640.size a)
theorem k0_off43_inb : ∀ (i : grid0.Coords) (k0_t3 : Fin k0_t3_loop.trips) (v133 : BitVec 32) (k0_hw11 : k0_chk11 i k0_t3 v133), ∀ (k0_h2 : k0_cond2 i k0_t3 = 1#1), ∀ a, (k0_off43 v133) a + S1x640.size a ≤ S11000x640.size a := fun i k0_t3 v133 k0_hw11 k0_h2 => k0_hw11 k0_h2

def k0_off44 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  ![v129.toNat]
def k0_off45 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  let c1_i32_89 : BitVec 32 := 1#32
  let c0_i32_90 : BitVec 32 := 0#32
  ![v129.toNat, 1, 0]
def k0_off46 (v137 : BitVec 32) : Fin 2 → Nat :=
  let c0_i32_91 : BitVec 32 := 0#32
  ![v137.toNat, 0]

def k0_chk12 (i : grid0.Coords) (k0_t3 : Fin k0_t3_loop.trips) (v137 : BitVec 32) : Prop :=
  (∀ (k0_h2 : k0_cond2 i k0_t3 = 1#1), ∀ a, (k0_off46 v137) a + S1x640.size a ≤ S11000x640.size a)
theorem k0_off46_inb : ∀ (i : grid0.Coords) (k0_t3 : Fin k0_t3_loop.trips) (v137 : BitVec 32) (k0_hw12 : k0_chk12 i k0_t3 v137), ∀ (k0_h2 : k0_cond2 i k0_t3 = 1#1), ∀ a, (k0_off46 v137) a + S1x640.size a ≤ S11000x640.size a := fun i k0_t3 v137 k0_hw12 k0_h2 => k0_hw12 k0_h2

def k0_off47 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  ![v129.toNat]
def k0_off48 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  let c2_i32_92 : BitVec 32 := 2#32
  let c0_i32_93 : BitVec 32 := 0#32
  ![v129.toNat, 2, 0]
def k0_off49 (v141 : BitVec 32) : Fin 2 → Nat :=
  let c0_i32_94 : BitVec 32 := 0#32
  ![v141.toNat, 0]

def k0_chk13 (i : grid0.Coords) (k0_t3 : Fin k0_t3_loop.trips) (v141 : BitVec 32) : Prop :=
  (∀ (k0_h2 : k0_cond2 i k0_t3 = 1#1), ∀ a, (k0_off49 v141) a + S1x640.size a ≤ S11000x640.size a)
theorem k0_off49_inb : ∀ (i : grid0.Coords) (k0_t3 : Fin k0_t3_loop.trips) (v141 : BitVec 32) (k0_hw13 : k0_chk13 i k0_t3 v141), ∀ (k0_h2 : k0_cond2 i k0_t3 = 1#1), ∀ a, (k0_off49 v141) a + S1x640.size a ≤ S11000x640.size a := fun i k0_t3 v141 k0_hw13 k0_h2 => k0_hw13 k0_h2

def k0_off50 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  ![v129.toNat]
def k0_off51 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  let c3_i32_95 : BitVec 32 := 3#32
  let c0_i32_96 : BitVec 32 := 0#32
  ![v129.toNat, 3, 0]
def k0_off52 (v145 : BitVec 32) : Fin 2 → Nat :=
  let c0_i32_97 : BitVec 32 := 0#32
  ![v145.toNat, 0]

def k0_chk14 (i : grid0.Coords) (k0_t3 : Fin k0_t3_loop.trips) (v145 : BitVec 32) : Prop :=
  (∀ (k0_h2 : k0_cond2 i k0_t3 = 1#1), ∀ a, (k0_off52 v145) a + S1x640.size a ≤ S11000x640.size a)
theorem k0_off52_inb : ∀ (i : grid0.Coords) (k0_t3 : Fin k0_t3_loop.trips) (v145 : BitVec 32) (k0_hw14 : k0_chk14 i k0_t3 v145), ∀ (k0_h2 : k0_cond2 i k0_t3 = 1#1), ∀ a, (k0_off52 v145) a + S1x640.size a ≤ S11000x640.size a := fun i k0_t3 v145 k0_hw14 k0_h2 => k0_hw14 k0_h2

def k0_off53 (i : grid0.Coords) (k0_t3 : Fin k0_t3_loop.trips) : Fin 1 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  ![v129.toNat]
def k0_off54 (i : grid0.Coords) (k0_t3 : Fin k0_t3_loop.trips) : Fin 3 → Nat :=
  let arg0 : BitVec 32 := BitVec.ofNat 32 (i 0).val
  let c104_i32_44 : BitVec 32 := 104#32
  let v54 : BitVec 32 := Scalar.muli arg0 c104_i32_44
  let c0_i32_10 : BitVec 32 := 0#32
  let c1_i32_11 : BitVec 32 := 1#32
  let arg13 : BitVec 32 := Scf.iv c0_i32_10 c1_i32_11 k0_t3
  let v55 : BitVec 32 := Scalar.addi v54 arg13
  let c16_i32_74 : BitVec 32 := 16#32
  let v128 : BitVec 32 := Scalar.addi v55 c16_i32_74
  let c16_i32_75 : BitVec 32 := 16#32
  let v129 : BitVec 32 := Scalar.remsi v128 c16_i32_75
  let c4_i32_98 : BitVec 32 := 4#32
  let c0_i32_99 : BitVec 32 := 0#32
  ![v129.toNat, 4, 0]
def k0_off55 (v149 : BitVec 32) : Fin 2 → Nat :=
  let c0_i32_100 : BitVec 32 := 0#32
  ![v149.toNat, 0]

def k0_chk15 (i : grid0.Coords) (k0_t3 : Fin k0_t3_loop.trips) (v149 : BitVec 32) : Prop :=
  (∀ (k0_h2 : k0_cond2 i k0_t3 = 1#1), ∀ a, (k0_off55 v149) a + S1x640.size a ≤ S11000x640.size a)
theorem k0_off55_inb : ∀ (i : grid0.Coords) (k0_t3 : Fin k0_t3_loop.trips) (v149 : BitVec 32) (k0_hw15 : k0_chk15 i k0_t3 v149), ∀ (k0_h2 : k0_cond2 i k0_t3 = 1#1), ∀ a, (k0_off55 v149) a + S1x640.size a ≤ S11000x640.size a := fun i k0_t3 v149 k0_hw15 k0_h2 => k0_hw15 k0_h2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S104x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x5x104 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S104x80x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S104x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2600x1280 : Shape := ⟨2, ![2600, 1280]⟩
abbrev S1280x640 : Shape := ⟨2, ![1280, 640]⟩
abbrev S11000x640 : Shape := ⟨2, ![11000, 640]⟩
abbrev S80x256x8 : Shape := ⟨3, ![80, 256, 8]⟩
abbrev S2600x5 : Shape := ⟨2, ![2600, 5]⟩
abbrev S2600x640 : Shape := ⟨2, ![2600, 640]⟩
abbrev S2600x80x8 : Shape := ⟨3, ![2600, 80, 8]⟩
abbrev S80x256x2600 : Shape := ⟨3, ![80, 256, 2600]⟩
abbrev S2600x80x256 : Shape := ⟨3, ![2600, 80, 256]⟩
abbrev S_ : Shape := ⟨0, ![]⟩
abbrev S2600x1x640 : Shape := ⟨3, ![2600, 1, 640]⟩
abbrev S2600x5x1 : Shape := ⟨3, ![2600, 5, 1]⟩
abbrev S2600x5x640 : Shape := ⟨3, ![2600, 5, 640]⟩
abbrev S25x104x5 : Shape := ⟨3, ![25, 104, 5]⟩
abbrev S25x5x104 : Shape := ⟨3, ![25, 5, 104]⟩

abbrev nBuf : Space → Nat
  | .hbm => 31
  | .vmem => 0
  | .smem => 0
  | _ => 0

abbrev bufTy : (tb : Table) → Fin (tcTables nBuf tb) → BufTy
  | .hbm, ⟨0, _⟩ => ⟨S2600x1280, .bf16⟩
  | .hbm, ⟨1, _⟩ => ⟨S1280x640, .bf16⟩
  | .hbm, ⟨2, _⟩ => ⟨S11000x640, .f32⟩
  | .hbm, ⟨3, _⟩ => ⟨S80x256x8, .bf16⟩
  | .hbm, ⟨4, _⟩ => ⟨S2600x5, .i32⟩
  | .hbm, ⟨5, _⟩ => ⟨S2600x640, .f32⟩
  | .hbm, ⟨6, _⟩ => ⟨S2600x640, .bf16⟩
  | .hbm, ⟨7, _⟩ => ⟨S2600x80x8, .bf16⟩
  | .hbm, ⟨8, _⟩ => ⟨S80x256x2600, .f32⟩
  | .hbm, ⟨9, _⟩ => ⟨S2600x80x256, .f32⟩
  | .hbm, ⟨10, _⟩ => ⟨S_, .f32⟩
  | .hbm, ⟨11, _⟩ => ⟨S2600x80x256, .f32⟩
  | .hbm, ⟨12, _⟩ => ⟨S2600x80x256, .f32⟩
  | .hbm, ⟨13, _⟩ => ⟨S2600x640, .f32⟩
  | .hbm, ⟨14, _⟩ => ⟨S2600x1x640, .f32⟩
  | .hbm, ⟨15, _⟩ => ⟨S_, .i32⟩
  | .hbm, ⟨16, _⟩ => ⟨S2600x5, .i32⟩
  | .hbm, ⟨17, _⟩ => ⟨S2600x5, .i1⟩
  | .hbm, ⟨18, _⟩ => ⟨S_, .i32⟩
  | .hbm, ⟨19, _⟩ => ⟨S2600x5, .i32⟩
  | .hbm, ⟨20, _⟩ => ⟨S2600x5, .i32⟩
  | .hbm, ⟨21, _⟩ => ⟨S2600x5, .i32⟩
  | .hbm, ⟨22, _⟩ => ⟨S2600x5x1, .i32⟩
  | .hbm, ⟨23, _⟩ => ⟨S2600x5x640, .f32⟩
  | .hbm, ⟨24, _⟩ => ⟨S2600x5x640, .f32⟩
  | .hbm, ⟨25, _⟩ => ⟨S2600x5x640, .f32⟩
  | .hbm, ⟨26, _⟩ => ⟨S2600x5x640, .f32⟩
  | .hbm, ⟨27, _⟩ => ⟨S_, .f32⟩
  | .hbm, ⟨28, _⟩ => ⟨S2600x5, .f32⟩
  | .hbm, ⟨29, _⟩ => ⟨S25x104x5, .f32⟩
  | .hbm, ⟨30, _⟩ => ⟨S25x5x104, .f32⟩
  | _, _ => ⟨S2600x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Ring.lean ====
/-
  The ring of sixteen slots through which the kernel fetches centroid rows. A slot is one of the sixteen slabs of the
  row buffer together with the semaphore of the same number. It is either free or in flight for one query: five row
  copies were started into the first five rows of its slab, and none was waited for. This file defines the two states
  and gives the rules that lead from one to the other: opening a free slot, starting its five copies, waiting five
  times, and closing the slot with the five rows landed.
-/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.Pipeline.ValueKit.Geometry
public import Idealize.ShloMosaic.Lib.ValueLayout
public import Mathlib.Tactic.Ring
public import Mathlib.Tactic.Linarith

@[expose] public section

noncomputable section

namespace Cert.Kernel.Ring

open Cert.Kernel Cert.Kernel.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

/-- The proof's user algebra: the pipeline's beside the counters of the copies. -/
local notation "𝕄" => MT nD τ sig Unit (Elt F) ℕ (Pipeline.UD sig nD τ) ℕ

/-- The counters of the copies in that algebra. -/
abbrev EC : UEmb Counters (MT nD τ sig Unit (Elt F) ℕ (Pipeline.UD sig nD τ) ℕ) :=
  countersEmb (U := Pipeline.UD sig nD τ)

section Geometry

variable (m5 : Memref sig .tc .hbm S11000x640 .f32) (m11 : Memref sig .tc .vmem S16x8x640 .f32) (m12 : DmaSems sig S16)

theorem cell_inb (s : Fin 16) : ∀ a, (![s.val] : Fin 1 → ℕ) a + S1.size a ≤ S16.size a := by
  intro a; fin_cases a; show s.val + 1 ≤ 16; omega

theorem dst_inb (s : Fin 16) (p : Fin 5) : ∀ a, (![s.val, p.val, 0] : Fin 3 → ℕ) a + S1x1x640.size a ≤ S16x8x640.size a := by
  intro a
  fin_cases a
  · show s.val + 1 ≤ 16; omega
  · show p.val + 1 ≤ 8; omega
  · show 0 + 640 ≤ 640; omega

theorem src_inb (r : Fin 11000) : ∀ a, (![r.val, 0] : Fin 2 → ℕ) a + S1x640.size a ≤ S11000x640.size a := by
  intro a
  fin_cases a
  · show r.val + 1 ≤ 11000; omega
  · show 0 + 640 ≤ 640; omega

/-- The semaphore of slot `s`. -/
abbrev cell (s : Fin 16) : DmaSem sig :=
  ((m12.slice (Rect.unit (s := S16) ![s.val] S1.size (cell_inb s))).squeeze S_ squeezes_S1_S_).sem

/-- Row `p` of the slab of slot `s`, where a copy lands. -/
abbrev dst (s : Fin 16) (p : Fin 5) : Memref sig .tc .vmem S1x640 .f32 :=
  (m11.slice (Rect.unit (s := S16x8x640) ![s.val, p.val, 0] S1x1x640.size (dst_inb s p)) (fun _ => rfl)).squeeze S1x640
    squeezes_S1x1x640_S1x640

/-- Row `r` of the centroids, what a copy reads. -/
abbrev src (r : Fin 11000) : Memref sig .tc .hbm S1x640 .f32 :=
  m5.slice (Rect.unit (s := S11000x640) ![r.val, 0] S1x640.size (src_inb r)) (fun _ => rfl)

/-- The slab of slot `s`. -/
def slab (s : Fin 16) : Finset m11.view.ty.Idx := m11.view.setOn (Finset.univ.filter fun x : S16x8x640.Idx => (x 0).val = s.val)

/-- The five landing rows of slot `s`. -/
def rows5 (s : Fin 16) : Finset m11.view.ty.Idx := Finset.univ.biUnion fun p => (dst m11 s p).view.set

/-- Five as rows among the eight of a slab. -/
abbrev row8 (p : Fin 5) : Fin 8 := ⟨p.val, by omega⟩

/-- Where entry `l` of landing row `p` lies. -/
theorem dst_emb (s : Fin 16) (p : Fin 5) (u : Fin 1) (l : Fin 640) :
    (dst m11 s p).view.emb (ix2 u l) = m11.view.emb (ix3 s (row8 p) l) := by
  show m11.view.emb ((Rect.unit (s := S16x8x640) ![s.val, p.val, 0] S1x1x640.size (dst_inb s p)).emb
    (Shape.reshapeEquiv squeezes_S1x1x640_S1x640.numel_eq (ix2 u l))) = _
  congr 1
  have e := ValueIdx.reshapeEquiv_ix2_1ab (a := 1) (b := 640) squeezes_S1x1x640_S1x640.numel_eq u l
  refine funext fun a => Fin.ext ?_
  refine (ValueKit.rect_emb_unit_val _ _ _ _ a).trans ?_
  have e' := congrArg (fun x => (x a).val) e
  refine (congrArg (_ + ·) e').trans ?_
  have hu : u.val = 0 := by omega
  fin_cases a
  · show s.val + 0 = s.val; omega
  · show p.val + u.val = p.val; omega
  · show 0 + l.val = l.val; omega

/-- Where entry `l` of centroid row `r` lies. -/
theorem src_emb (r : Fin 11000) (u : Fin 1) (l : Fin 640) :
    (src m5 r).view.emb (ix2 u l) = m5.view.emb (ix2 r l) := by
  show m5.view.emb ((Rect.unit (s := S11000x640) ![r.val, 0] S1x640.size (src_inb r)).emb (ix2 u l)) = _
  congr 1
  refine funext fun a => Fin.ext ?_
  refine (ValueKit.rect_emb_unit_val _ _ _ _ a).trans ?_
  have hu : u.val = 0 := by omega
  fin_cases a
  · show r.val + u.val = r.val; omega
  · show 0 + l.val = l.val; omega

theorem mem_dst {s : Fin 16} {p : Fin 5} {i : m11.view.ty.Idx} (h : i ∈ (dst m11 s p).view.set) :
    ∃ l : Fin 640, i = m11.view.emb (ix3 s (row8 p) l) := by
  obtain ⟨x, -, rfl⟩ := Finset.mem_map.mp h
  refine ⟨x 1, ?_⟩
  rw [← dst_emb m11 s p (x 0) (x 1)]
  exact congrArg _ (ValueIdx.eq_ix2 x)

theorem dst_disjoint (s : Fin 16) (p p' : Fin 5) (h : p ≠ p') :
    Disjoint (dst m11 s p).view.set (dst m11 s p').view.set := by
  rw [Finset.disjoint_left]
  intro i hi hi'
  obtain ⟨l, e⟩ := mem_dst m11 hi
  obtain ⟨l', e'⟩ := mem_dst m11 hi'
  have := congrArg Fin.val (congrFun (m11.view.emb.injective (e.symm.trans e')) 1)
  exact h (Fin.ext this)

theorem mem_slab (s : Fin 16) (r : Fin 8) (l : Fin 640) : m11.view.emb (ix3 s r l) ∈ slab m11 s :=
  m11.view.mem_setOn.mpr (Finset.mem_filter.mpr ⟨Finset.mem_univ _, rfl⟩)

theorem rows5_sub (s : Fin 16) : rows5 m11 s ⊆ slab m11 s := by
  intro i hi
  obtain ⟨p, -, hi⟩ := Finset.mem_biUnion.mp hi
  obtain ⟨l, rfl⟩ := mem_dst m11 hi
  exact mem_slab m11 s _ l

theorem slab_disjoint (s s' : Fin 16) (h : s ≠ s') : Disjoint (slab m11 s) (slab m11 s') := by
  rw [Finset.disjoint_left]
  intro i hi hi'
  obtain ⟨x, hx, rfl⟩ := Finset.mem_map.mp hi
  have hx' := m11.view.mem_setOn.mp hi'
  exact h (Fin.ext (Eq.trans (Finset.mem_filter.mp hx).2.symm (Finset.mem_filter.mp hx').2))

theorem slab_union : Finset.univ.biUnion (slab m11) = m11.view.set := by
  ext i
  constructor
  · intro hi
    obtain ⟨s, -, hi⟩ := Finset.mem_biUnion.mp hi
    exact m11.view.setOn_subset_set _ hi
  · intro hi
    obtain ⟨x, -, rfl⟩ := Finset.mem_map.mp hi
    exact Finset.mem_biUnion.mpr ⟨x 0, Finset.mem_univ _, m11.view.mem_setOn.mpr (Finset.mem_filter.mpr ⟨Finset.mem_univ _, rfl⟩)⟩

end Geometry

section States

variable (m5 : Memref sig .tc .hbm S11000x640 .f32) (m11 : Memref sig .tc .vmem S16x8x640 .f32) (m12 : DmaSems sig S16)
variable (c : Dev nD) (fs : Buf (Elt F) (m5.view.loc (c : Thread nD τ)))

/-- What one copy adds to its semaphore. -/
def amt : ℕ := sig.dmaCredit .tc (Kind.tc.table .vmem) m11.view.buf S1x640 .f32

theorem amt_pos : 0 < amt m11 := sig.dmaCredit_pos _ _ _ _ _ (by decide)

/-- The share of the centroids that slot `s` reads with. -/
abbrev tok (s : Fin 16) : PosShare TreeShare := shareTok fullShare 16 s

/-- The share of the centroids that copy `p` of slot `s` reads with. -/
abbrev tok5 (s : Fin 16) (p : Fin 5) : PosShare TreeShare := shareTok (tok s) 5 p

/-- What copy `p` of slot `s`, reading centroid row `r p`, delivers: the landing row rewritten with the centroid row,
    and the share of the centroid row. -/
def deliv (s : Fin 16) (r : Fin 5 → Fin 11000) (f : Buf (Elt F) (m11.view.loc (c : Thread nD τ))) (p : Fin 5) : sProp 𝕄 :=
  iprop((m11.view.loc (c : Thread nD τ) ↦[(dst m11 s p).view.set]{fullShare}
      ((dst m11 s p).view.write (Elt F) f ((src m5 (r p)).view.read (Elt F) fs) Finset.univ))
    ∗ (m5.view.loc (c : Thread nD τ) ↦[(src m5 (r p)).view.set]{tok5 s p} fs))

instance (s : Fin 16) (r : Fin 5 → Fin 11000) (f : Buf (Elt F) (m11.view.loc (c : Thread nD τ))) (p : Fin 5) :
    Storable (upEmb : UEmb _ 𝕄) (deliv m5 m11 c fs s r f p) := by
  unfold deliv; infer_instance

/-- Slot `s` free: its slab, its share of the centroids, its semaphore at zero. -/
def Free (s : Fin 16) : sProp 𝕄 :=
  iprop((∃ f, m11.view.loc (c : Thread nD τ) ↦[slab m11 s]{fullShare} f)
    ∗ (m5.view.loc (c : Thread nD τ) ↦{tok s} fs)
    ∗ semVal ((c : Thread nD τ), .dma (cell m12 s)) 0)

/-- Slot `s` with `j` of its five copies started, copy `p` reading centroid row `r p`, over a slab that held `f`;
    `u` units consumed by waits. -/
def Flight (s : Fin 16) (r : Fin 5 → Fin 11000) (f : Buf (Elt F) (m11.view.loc (c : Thread nD τ))) (j u : ℕ) : sProp 𝕄 :=
  iprop((m11.view.loc (c : Thread nD τ) ↦[slab m11 s \ rows5 m11 s]{fullShare} f)
    ∗ (m5.view.loc (c : Thread nD τ) ↦{shareDrop (tok s) 5} fs)
    ∗ bigSep (pending j) (fun p : Fin 5 => iprop((m11.view.loc (c : Thread nD τ) ↦[(dst m11 s p).view.set]{fullShare} f)
        ∗ (m5.view.loc (c : Thread nD τ) ↦[(src m5 (r p)).view.set]{tok5 s p} fs)))
    ∗ bigSep Finset.univ (fun p : Fin 5 => m5.view.loc (c : Thread nD τ) ↦[Finset.univ \ (src m5 (r p)).view.set]{tok5 s p} fs)
    ∗ Batch EC (c : Thread nD τ) (.dma (cell m12 s)) () (amt m11) (deliv m5 m11 c fs s r f) j u)

/-- Slot `s` in flight for the centroid rows `r`: all five copies started, nothing waited for. -/
def InFlight (s : Fin 16) (r : Fin 5 → Fin 11000) : sProp 𝕄 := iprop(∃ f, Flight m5 m11 m12 c fs s r f 5 0)

/-- Slot `s` landed: free, and the first five rows of its slab hold the centroid rows `r`. -/
def Landed (s : Fin 16) (r : Fin 5 → Fin 11000) : sProp 𝕄 :=
  iprop((∃ g, ⌜∀ (p : Fin 5) (l : Fin 640), m11.view.read (Elt F) g (ix3 s (row8 p) l) = m5.view.read (Elt F) fs (ix2 (r p) l)⌝
      ∗ m11.view.loc (c : Thread nD τ) ↦[slab m11 s]{fullShare} g)
    ∗ (m5.view.loc (c : Thread nD τ) ↦{tok s} fs)
    ∗ semVal ((c : Thread nD τ), .dma (cell m12 s)) 0)

/-- The five landing rows held together are held one by one. -/
theorem rows5_split (s : Fin 16) (f : Buf (Elt F) (m11.view.loc (c : Thread nD τ))) :
    (m11.view.loc (c : Thread nD τ) ↦[rows5 m11 s]{fullShare} f : sProp 𝕄)
      = bigSep Finset.univ (fun p : Fin 5 => m11.view.loc (c : Thread nD τ) ↦[(dst m11 s p).view.set]{fullShare} f) :=
  pointsTo_biUnion (ℓ := m11.view.loc (c : Thread nD τ)) Finset.univ (fun p : Fin 5 => (dst m11 s p).view.set)
    (fun p _ p' _ h => dst_disjoint m11 s p p' h)

/-- The five deliveries are the five landed rows and the five shares of the centroid rows. -/
theorem deliv_sep (s : Fin 16) (r : Fin 5 → Fin 11000) (f : Buf (Elt F) (m11.view.loc (c : Thread nD τ))) :
    bigSep Finset.univ (deliv m5 m11 c fs s r f)
      = iprop(bigSep Finset.univ (fun p : Fin 5 => m11.view.loc (c : Thread nD τ) ↦[(dst m11 s p).view.set]{fullShare}
          ((dst m11 s p).view.write (Elt F) f ((src m5 (r p)).view.read (Elt F) fs) Finset.univ))
        ∗ bigSep Finset.univ (fun p : Fin 5 => m5.view.loc (c : Thread nD τ) ↦[(src m5 (r p)).view.set]{tok5 s p} fs)) :=
  bigSep_sep Finset.univ
    (fun p : Fin 5 => (m11.view.loc (c : Thread nD τ) ↦[(dst m11 s p).view.set]{fullShare}
      ((dst m11 s p).view.write (Elt F) f ((src m5 (r p)).view.read (Elt F) fs) Finset.univ) : sProp 𝕄))
    (fun p : Fin 5 => (m5.view.loc (c : Thread nD τ) ↦[(src m5 (r p)).view.set]{tok5 s p} fs : sProp 𝕄))

/-- The landing rows and the centroid rows, paired copy by copy. -/
theorem pend_sep (s : Fin 16) (r : Fin 5 → Fin 11000) (f : Buf (Elt F) (m11.view.loc (c : Thread nD τ))) :
    iprop(bigSep Finset.univ (fun p : Fin 5 => m11.view.loc (c : Thread nD τ) ↦[(dst m11 s p).view.set]{fullShare} f)
        ∗ bigSep Finset.univ (fun p : Fin 5 => m5.view.loc (c : Thread nD τ) ↦[(src m5 (r p)).view.set]{tok5 s p} fs))
      ⊢ (bigSep Finset.univ (fun p : Fin 5 => iprop((m11.view.loc (c : Thread nD τ) ↦[(dst m11 s p).view.set]{fullShare} f)
        ∗ (m5.view.loc (c : Thread nD τ) ↦[(src m5 (r p)).view.set]{tok5 s p} fs))) : sProp 𝕄) :=
  Entails.of_eq (bigSep_sep Finset.univ
    (fun p : Fin 5 => (m11.view.loc (c : Thread nD τ) ↦[(dst m11 s p).view.set]{fullShare} f : sProp 𝕄))
    (fun p : Fin 5 => (m5.view.loc (c : Thread nD τ) ↦[(src m5 (r p)).view.set]{tok5 s p} fs : sProp 𝕄))).symm

/-- A share of the centroids, dealt to the five copies, is the five centroid rows and the five rests. -/
theorem toks_sep (s : Fin 16) (r : Fin 5 → Fin 11000) :
    bigSep Finset.univ (fun p : Fin 5 => m5.view.loc (c : Thread nD τ) ↦{tok5 s p} fs)
      ⊣⊢ (iprop(bigSep Finset.univ (fun p : Fin 5 => m5.view.loc (c : Thread nD τ) ↦[(src m5 (r p)).view.set]{tok5 s p} fs)
        ∗ bigSep Finset.univ (fun p : Fin 5 => m5.view.loc (c : Thread nD τ) ↦[Finset.univ \ (src m5 (r p)).view.set]{tok5 s p} fs)) : sProp 𝕄) := by
  have e := bigSep_sep Finset.univ
    (fun p : Fin 5 => (m5.view.loc (c : Thread nD τ) ↦[(src m5 (r p)).view.set]{tok5 s p} fs : sProp 𝕄))
    (fun p : Fin 5 => (m5.view.loc (c : Thread nD τ) ↦[Finset.univ \ (src m5 (r p)).view.set]{tok5 s p} fs : sProp 𝕄))
  exact ⟨(bigSep_mono (fun p _ => (pointsTo_split_subset (Finset.subset_univ (src m5 (r p)).view.set)).1)).trans (Entails.of_eq e),
    (Entails.of_eq e.symm).trans (bigSep_mono (fun p _ => (pointsTo_split_subset (Finset.subset_univ (src m5 (r p)).view.set)).2))⟩

/-- A landed slot is free. -/
theorem landed_free (s : Fin 16) (r : Fin 5 → Fin 11000) : Landed m5 m11 m12 c fs s r ⊢ Free m5 m11 m12 c fs s := by
  unfold Landed Free
  iintro ⟨⟨%g, %hg, Hg⟩, H5, Hs⟩
  isplitl [Hg]; · iexists g; iexact Hg
  isplitl [H5]; · iexact H5
  iexact Hs

/-- A free slot, opened for five copies of the centroid rows `r`. -/
theorem open_slot (s : Fin 16) (r : Fin 5 → Fin 11000) (E : Set ℕ) :
    Free m5 m11 m12 c fs s ⊢ |={E}=> iprop(∃ f, Flight m5 m11 m12 c fs s r f 0 0) := by
  unfold Free Flight
  iintro ⟨⟨%f, Hf⟩, H5, Hs⟩
  imod (batch_alloc' EC (c : Thread nD τ) (sm := .dma (cell m12 s)) () (amt m11) (deliv m5 m11 c fs s r f) (E := E)) $$ Hs with Hb
  imodintro
  iexists f
  ihave Hf' := (pointsTo_split_subset (rows5_sub m11 s)).1 $$ Hf
  icases Hf' with ⟨Hr, Hf⟩
  isplitl [Hf]; · iexact Hf
  ihave H5' := (pointsTo_toks_split (tok s) 5) $$ H5
  icases H5' with ⟨H5, Ht⟩
  isplitl [H5]; · iexact H5
  ihave Hr' := (Entails.of_eq (rows5_split m11 c s f)) $$ Hr
  ihave Ht' := (toks_sep m5 c fs s r).1 $$ Ht
  icases Ht' with ⟨Ht, Hu⟩
  isplitl [Hr' Ht]
  · rw [pending_zero]
    iapply (pend_sep m5 m11 c fs s r f)
    isplitl [Hr']; · iexact Hr'
    iexact Ht
  isplitl [Hu]; · iexact Hu
  iexact Hb

/-- Starting copy `p`: from `p` copies started to `p + 1`. The three offsets are the program's own. -/
theorem wp_start (p : Fin 5) (s : Fin 16) (r : Fin 5 → Fin 11000) (f : Buf (Elt F) (m11.view.loc (c : Thread nD τ)))
    {o1 : Fin 1 → ℕ} {o2 : Fin 3 → ℕ} {o3 : Fin 2 → ℕ}
    (h1 : ∀ a, o1 a + S1.size a ≤ S16.size a) (h2 : ∀ a, o2 a + S1x1x640.size a ≤ S16x8x640.size a)
    (h3 : ∀ a, o3 a + S1x640.size a ≤ S11000x640.size a)
    (e1 : o1 = ![s.val]) (e2 : o2 = ![s.val, p.val, 0]) (e3 : o3 = ![(r p).val, 0])
    {hs hd ht} {α : Type} {Q : α → sProp 𝕄}
    {k : PUnit → Prog (TpuEff nD τ sig (Elt F) Λ₀ .tc) α} :
    Flight m5 m11 m12 c fs s r f p.val 0
      ⊢ iprop((Flight m5 m11 m12 c fs s r f (p.val + 1) 0 -∗ wp frame (wpE (defs₀ (F := F)) Variants.none (c : Thread nD τ) none) Set.univ (k ⟨⟩) Q)
          -∗ wp frame (wpE (defs₀ (F := F)) Variants.none (c : Thread nD τ) none) Set.univ
            (.op (.enqueueDma (m5.slice (Rect.unit (s := S11000x640) o3 S1x640.size h3) (fun _ => rfl))
              (.here ((m11.slice (Rect.unit (s := S16x8x640) o2 S1x1x640.size h2) (fun _ => rfl)).squeeze S1x640 squeezes_S1x1x640_S1x640))
              (.dma ((m12.slice (Rect.unit (s := S16) o1 S1.size h1)).squeeze S_ squeezes_S1_S_).sem) hs hd ht) k) Q) := by
  subst e1 e2 e3
  unfold Flight
  rw [bigSep_pending_step _ p.val p.isLt]
  iintro ⟨Hf, H5, ⟨⟨Hd, Ht⟩, Hp⟩, Hu, Hb⟩ Hk
  iapply (wp_dmaBatch EC Variants.none (c : Thread nD τ) none (n := 5) (via := .same) (src := src m5 (r p)) (dst := dst m11 s p)
    (D := deliv m5 m11 c fs s r f) (j := p.val) (u := 0) () (amt m11) rfl (Finset.Subset.refl _) p.isLt (Nat.zero_le _) .rfl)
    $$ [Hd Ht Hb]
  · isplitl [Ht]; · iexact Ht
    isplitl [Hd]; · iexact Hd
    iexact Hb
  iintro Hb
  iapply Hk
  isplitl [Hf]; · iexact Hf
  isplitl [H5]; · iexact H5
  isplitl [Hp]; · iexact Hp
  isplitl [Hu]; · iexact Hu
  iexact Hb

/-- One of the first four waits on a slot in flight. -/
theorem wp_wait (s : Fin 16) (r : Fin 5 → Fin 11000) (f : Buf (Elt F) (m11.view.loc (c : Thread nD τ))) (n : ℕ) (hn : n < 4)
    {o1 : Fin 1 → ℕ} {o2 : Fin 3 → ℕ}
    (h1 : ∀ a, o1 a + S1.size a ≤ S16.size a) (h2 : ∀ a, o2 a + S1x1x640.size a ≤ S16x8x640.size a)
    (e1 : o1 = ![s.val])
    {sp' : Space} {s' : Shape} {e' : EltTy} {srcw : Memref sig .tc sp' s' e'} {hs hd} {α : Type} {Q : α → sProp 𝕄}
    {k : PUnit → Prog (TpuEff nD τ sig (Elt F) Λ₀ .tc) α} {W : Waits sig Unit} :
    iprop(Flight m5 m11 m12 c fs s r f 5 (n * amt m11) ∗ owes (c : Thread nD τ) 0 W)
      ⊢ iprop((iprop(Flight m5 m11 m12 c fs s r f 5 ((n + 1) * amt m11) ∗ owes (c : Thread nD τ) 0 (insert (SemLoc.dma (cell m12 s), ()) W))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 ((m12.slice (Rect.unit (s := S16) o1 S1.size h1)).squeeze S_ squeezes_S1_S_).sem srcw
              ((m11.slice (Rect.unit (s := S16x8x640) o2 S1x1x640.size h2) (fun _ => rfl)).squeeze S1x640 squeezes_S1x1x640_S1x640) hs hd) k) Q) := by
  subst e1
  unfold Flight
  iintro ⟨⟨Hf, H5, Hp, Hu, Hb⟩, HW⟩ Hk
  iapply (wp_waitBatch EC Variants.none (c : Thread nD τ) none (n := 5) (D := deliv m5 m11 c fs s r f) (u := n * amt m11) ()
    (N := amt m11) rfl (by have := amt_pos m11; nlinarith)) $$ [Hb HW]
  · isplitl [Hb]; · iexact Hb
    iexact HW
  iintro ⟨Hb, HW⟩
  iapply Hk
  rw [show (n + 1) * amt m11 = n * amt m11 + amt m11 by ring]
  isplitr [HW]
  · isplitl [Hf]; · iexact Hf
    isplitl [H5]; · iexact H5
    isplitl [Hp]; · iexact Hp
    isplitl [Hu]; · iexact Hu
    iexact Hb
  iexact HW

/-- A landing row rewritten by its copy reads the centroid row. -/
theorem read_landed (s : Fin 16) (r : Fin 5 → Fin 11000) (f g : Buf (Elt F) (m11.view.loc (c : Thread nD τ))) (p : Fin 5)
    (hg : ∀ i ∈ (dst m11 s p).view.set, g i = (dst m11 s p).view.write (Elt F) f ((src m5 (r p)).view.read (Elt F) fs) Finset.univ i)
    (l : Fin 640) : m11.view.read (Elt F) g (ix3 s (row8 p) l) = m5.view.read (Elt F) fs (ix2 (r p) l) := by
  have h := congrFun (View.read_congr (v := (dst m11 s p).view) (Val := Elt F) hg) (ix2 0 l)
  rw [View.read_write_univ] at h
  rw [View.read_apply, View.read_apply] at h ⊢
  rw [← dst_emb m11 s p 0 l, ← src_emb m5 (r p) 0 l]
  exact h

/-- The five deliveries and what the slot kept make it landed. -/
theorem close_slot (s : Fin 16) (r : Fin 5 → Fin 11000) (f : Buf (Elt F) (m11.view.loc (c : Thread nD τ))) :
    iprop((m11.view.loc (c : Thread nD τ) ↦[slab m11 s \ rows5 m11 s]{fullShare} f)
      ∗ (m5.view.loc (c : Thread nD τ) ↦{shareDrop (tok s) 5} fs)
      ∗ bigSep Finset.univ (fun p : Fin 5 => m5.view.loc (c : Thread nD τ) ↦[Finset.univ \ (src m5 (r p)).view.set]{tok5 s p} fs)
      ∗ bigSep Finset.univ (deliv m5 m11 c fs s r f)
      ∗ semVal ((c : Thread nD τ), .dma (cell m12 s)) 0)
    ⊢ Landed m5 m11 m12 c fs s r := by
  unfold Landed
  rw [deliv_sep]
  iintro ⟨Hf, H5, Hu, ⟨Hd, Ht⟩, Hs⟩
  isplitl [Hf Hd]
  · ihave Hd' := (pointsTo_biUnion_join (ℓ := m11.view.loc (c : Thread nD τ)) Finset.univ (fun p : Fin 5 => (dst m11 s p).view.set)
      (fun p => (dst m11 s p).view.write (Elt F) f ((src m5 (r p)).view.read (Elt F) fs) Finset.univ) f
      (fun p _ p' _ h => dst_disjoint m11 s p p' h)) $$ Hd
    icases Hd' with ⟨%g, %hg, Hd⟩
    ihave H := (pointsTo_join_subset (ℓ := m11.view.loc (c : Thread nD τ)) (f := f) (g := g) (rows5_sub m11 s)) $$ [Hd Hf]
    · isplitl [Hd]; · iexact Hd
      iexact Hf
    iexists _
    isplitr [H]
    swap; · iexact H
    ipureintro
    intro p l
    refine read_landed m5 m11 c fs s r f _ p (fun i hi => ?_) l
    rw [← hg p (Finset.mem_univ _) i hi]
    exact Finset.piecewise_eq_of_mem _ _ _ (Finset.mem_biUnion.mpr ⟨p, Finset.mem_univ _, hi⟩)
  isplitr [Hs]
  swap; · iexact Hs
  iapply (pointsTo_toks_join (tok s) 5)
  isplitl [H5]; · iexact H5
  iapply (toks_sep m5 c fs s r).2
  isplitl [Ht]; · iexact Ht
  iexact Hu

/-- The fifth wait on a slot in flight lands it. -/
theorem wp_waitLast (s : Fin 16) (r : Fin 5 → Fin 11000) (f : Buf (Elt F) (m11.view.loc (c : Thread nD τ)))
    {o1 : Fin 1 → ℕ} {o2 : Fin 3 → ℕ}
    (h1 : ∀ a, o1 a + S1.size a ≤ S16.size a) (h2 : ∀ a, o2 a + S1x1x640.size a ≤ S16x8x640.size a)
    (e1 : o1 = ![s.val])
    {sp' : Space} {s' : Shape} {e' : EltTy} {srcw : Memref sig .tc sp' s' e'} {hs hd} {α : Type} {Q : α → sProp 𝕄}
    {k : PUnit → Prog (TpuEff nD τ sig (Elt F) Λ₀ .tc) α} {W : Waits sig Unit} :
    iprop(Flight m5 m11 m12 c fs s r f 5 (4 * amt m11) ∗ owes (c : Thread nD τ) 0 W)
      ⊢ iprop((iprop(Landed m5 m11 m12 c fs s r ∗ owes (c : Thread nD τ) 0 (insert (SemLoc.dma (cell m12 s), ()) W))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 ((m12.slice (Rect.unit (s := S16) o1 S1.size h1)).squeeze S_ squeezes_S1_S_).sem srcw
              ((m11.slice (Rect.unit (s := S16x8x640) o2 S1x1x640.size h2) (fun _ => rfl)).squeeze S1x640 squeezes_S1x1x640_S1x640) hs hd) k) Q) := by
  subst e1
  unfold Flight
  iintro ⟨⟨Hf, H5, Hp, Hu, Hb⟩, HW⟩ Hk
  iapply (wp_waitBatchLast EC Variants.none (c : Thread nD τ) none (n := 5) (D := deliv m5 m11 c fs s r f) (u := 4 * amt m11) ()
    (N := amt m11) rfl (amt_pos m11) (by ring)) $$ [Hb HW]
  · isplitl [Hb]; · iexact Hb
    iexact HW
  iintro ⟨Hb, Hs, HW⟩
  iapply Hk
  isplitr [HW]
  swap; · iexact HW
  iapply (close_slot m5 m11 m12 c fs s r f)
  isplitl [Hf]; · iexact Hf
  isplitl [H5]; · iexact H5
  isplitl [Hu]; · iexact Hu
  isplitl [Hb]; · iexact Hb
  iexact Hs

end States

end Cert.Kernel.Ring

end

end
-- ==== Proof.Index.lean ====
/-
  The word arithmetic of the kernel's addresses: which table entries, slots, semaphores and rows the prologue and a
  query trip name, as numbers.
-/
module

public import proofs.«01_k».proof.Proof.Gen.Kernel
public import Idealize.ShloMosaic.Lib.Affine
public import Idealize.ShloMosaic.Lib.WordArith
public import Idealize.ShloMosaic.Lib.WordArith.Masks
public import Idealize.ShloMosaic.Lib.Tactic

@[expose] public section

namespace Cert.Kernel.Index

open Cert.Kernel Cert.Kernel.Gen
open Idealize.ShloMosaic Idealize.ShloMosaic.TcCoe Idealize.ShloMosaic.Tactic

theorem trips1 : k0_t1_loop.trips = 16 := by decide
theorem trips3 : k0_t3_loop.trips = 104 := by decide

theorem lt1 (k : Fin k0_t1_loop.trips) : k.val < 16 := trips1 ▸ k.isLt
theorem lt3 (t : Fin k0_t3_loop.trips) : t.val < 104 := trips3 ▸ t.isLt
theorem ltG (i : grid0.Coords) : (i 0).val < 25 := (i 0).isLt

/-- The query of trip `t` at grid coordinates `i`. -/
def qn (i : grid0.Coords) (t : ℕ) : ℕ := 104 * (i 0).val + t

theorem qn_lt (i : grid0.Coords) (t : Fin k0_t3_loop.trips) : qn i t < 2600 := by
  have := ltG i; have := lt3 t; unfold qn; omega

theorem qw (i : grid0.Coords) (t : Fin k0_t3_loop.trips) :
    (Scalar.addi (Scalar.muli (BitVec.ofNat 32 (i 0).val) 104#32) (Scf.iv 0#32 1#32 t.val)).toNat = qn i t := by
  have := ltG i; have := lt3 t
  simp only [Scalar.addi, Scalar.muli, IntOp.addi, IntOp.muli, BitVec.toNat_add, BitVec.toNat_mul, BitVec.toNat_ofNat,
    WordArith.toNat_iv_zero_one t.val (by omega)]
  unfold qn; omega

theorem qw16 (i : grid0.Coords) (t : Fin k0_t3_loop.trips) :
    (Scalar.addi (Scalar.addi (Scalar.muli (BitVec.ofNat 32 (i 0).val) 104#32) (Scf.iv 0#32 1#32 t.val)) 16#32).toNat = qn i t + 16 := by
  have := qn_lt i t
  rw [show Scalar.addi (Scalar.addi (Scalar.muli (BitVec.ofNat 32 (i 0).val) 104#32) (Scf.iv 0#32 1#32 t.val)) 16#32
    = IntOp.addi (Scalar.addi (Scalar.muli (BitVec.ofNat 32 (i 0).val) 104#32) (Scf.iv 0#32 1#32 t.val)) 16#32 from rfl]
  simp only [IntOp.addi, BitVec.toNat_add, BitVec.toNat_ofNat]
  rw [show (Scalar.addi (Scalar.muli (BitVec.ofNat 32 (i 0).val) 104#32) (Scf.iv 0#32 1#32 t.val)).toNat = qn i t from qw i t]
  omega

/-- A word times five plus `p`. -/
theorem five (w : BitVec 32) (n p : ℕ) (hw : w.toNat = n) (hn : n < 3000) (hp : p < 5) :
    (Scalar.indexCast (Scalar.addi (Scalar.muli w 5#32) (BitVec.ofNat 32 p))).toNat = 5 * n + p := by
  show (Scalar.addi (Scalar.muli w 5#32) (BitVec.ofNat 32 p)).toNat = 5 * n + p
  simp only [Scalar.addi, Scalar.muli, IntOp.addi, IntOp.muli, BitVec.toNat_add, BitVec.toNat_mul, BitVec.toNat_ofNat, hw]
  omega

/-- A word's remainder by sixteen. -/
theorem rem16 (w : BitVec 32) (n : ℕ) (hw : w.toNat = n) (hn : n < 3000) : (Scalar.remsi w 16#32).toNat = n % 16 := by
  have h := IntOp.toNat_remsi .scalar (x := w) (by omega) 16 (by omega) (by omega)
  rw [hw] at h; exact h

theorem off21 (i : grid0.Coords) (t : Fin k0_t3_loop.trips) (p : ℕ) (hp : p < 5) :
    k0_off21 i t (BitVec.ofNat 32 p) = ![5 * qn i t + p] :=
  congrArg (fun n => ![n]) (five _ _ p (qw i t) (by have := qn_lt i t; omega) hp)

theorem off40 (i : grid0.Coords) (t : Fin k0_t3_loop.trips) (p : ℕ) (hp : p < 5) :
    k0_off40 i t (BitVec.ofNat 32 p) = ![5 * (qn i t + 16) + p] :=
  congrArg (fun n => ![n]) (five _ _ p (qw16 i t) (by have := qn_lt i t; omega) hp)

theorem slot (i : grid0.Coords) (t : Fin k0_t3_loop.trips) :
    (Scalar.remsi (Scalar.addi (Scalar.muli (BitVec.ofNat 32 (i 0).val) 104#32) (Scf.iv 0#32 1#32 t.val)) 16#32).toNat = qn i t % 16 :=
  rem16 _ _ (qw i t) (by have := qn_lt i t; omega)

theorem slot16 (i : grid0.Coords) (t : Fin k0_t3_loop.trips) :
    (Scalar.remsi (Scalar.addi (Scalar.addi (Scalar.muli (BitVec.ofNat 32 (i 0).val) 104#32) (Scf.iv 0#32 1#32 t.val)) 16#32) 16#32).toNat
      = qn i t % 16 :=
  (rem16 _ _ (qw16 i t) (by have := qn_lt i t; omega)).trans (Nat.add_mod_right _ _)

theorem off22 (i : grid0.Coords) (t : Fin k0_t3_loop.trips) : k0_off22 i t = ![qn i t % 16] := congrArg (fun n => ![n]) (slot i t)
theorem off25 (i : grid0.Coords) (t : Fin k0_t3_loop.trips) : k0_off25 i t = ![qn i t % 16] := congrArg (fun n => ![n]) (slot i t)
theorem off28 (i : grid0.Coords) (t : Fin k0_t3_loop.trips) : k0_off28 i t = ![qn i t % 16] := congrArg (fun n => ![n]) (slot i t)
theorem off31 (i : grid0.Coords) (t : Fin k0_t3_loop.trips) : k0_off31 i t = ![qn i t % 16] := congrArg (fun n => ![n]) (slot i t)
theorem off34 (i : grid0.Coords) (t : Fin k0_t3_loop.trips) : k0_off34 i t = ![qn i t % 16] := congrArg (fun n => ![n]) (slot i t)
theorem off38 (i : grid0.Coords) (t : Fin k0_t3_loop.trips) : k0_off38 i t = ![qn i t % 16, 0, 0] := congrArg (fun n => ![n, 0, 0]) (slot i t)
theorem off37 (t : Fin k0_t3_loop.trips) : k0_off37 t = ![t.val, 0] :=
  congrArg (fun n => ![n, 0]) (WordArith.toNat_iv_zero_one t.val (by have := lt3 t; omega))
theorem off39 (t : Fin k0_t3_loop.trips) : k0_off39 t = ![t.val, 0, 0] :=
  congrArg (fun n => ![n, 0, 0]) (WordArith.toNat_iv_zero_one t.val (by have := lt3 t; omega))

theorem off41 (i : grid0.Coords) (t : Fin k0_t3_loop.trips) : k0_off41 i t = ![qn i t % 16] := congrArg (fun n => ![n]) (slot16 i t)
theorem off44 (i : grid0.Coords) (t : Fin k0_t3_loop.trips) : k0_off44 i t = ![qn i t % 16] := congrArg (fun n => ![n]) (slot16 i t)
theorem off47 (i : grid0.Coords) (t : Fin k0_t3_loop.trips) : k0_off47 i t = ![qn i t % 16] := congrArg (fun n => ![n]) (slot16 i t)
theorem off50 (i : grid0.Coords) (t : Fin k0_t3_loop.trips) : k0_off50 i t = ![qn i t % 16] := congrArg (fun n => ![n]) (slot16 i t)
theorem off53 (i : grid0.Coords) (t : Fin k0_t3_loop.trips) : k0_off53 i t = ![qn i t % 16] := congrArg (fun n => ![n]) (slot16 i t)
theorem off42 (i : grid0.Coords) (t : Fin k0_t3_loop.trips) : k0_off42 i t = ![qn i t % 16, 0, 0] := congrArg (fun n => ![n, 0, 0]) (slot16 i t)
theorem off45 (i : grid0.Coords) (t : Fin k0_t3_loop.trips) : k0_off45 i t = ![qn i t % 16, 1, 0] := congrArg (fun n => ![n, 1, 0]) (slot16 i t)
theorem off48 (i : grid0.Coords) (t : Fin k0_t3_loop.trips) : k0_off48 i t = ![qn i t % 16, 2, 0] := congrArg (fun n => ![n, 2, 0]) (slot16 i t)
theorem off51 (i : grid0.Coords) (t : Fin k0_t3_loop.trips) : k0_off51 i t = ![qn i t % 16, 3, 0] := congrArg (fun n => ![n, 3, 0]) (slot16 i t)
theorem off54 (i : grid0.Coords) (t : Fin k0_t3_loop.trips) : k0_off54 i t = ![qn i t % 16, 4, 0] := congrArg (fun n => ![n, 4, 0]) (slot16 i t)

theorem iv1 (k : Fin k0_t1_loop.trips) : (Scf.iv 0#32 1#32 k.val).toNat = k.val :=
  WordArith.toNat_iv_zero_one k.val (by have := lt1 k; omega)

theorem off1 (k : Fin k0_t1_loop.trips) (p : ℕ) (hp : p < 5) : k0_off1 k (BitVec.ofNat 32 p) = ![5 * k.val + p] :=
  congrArg (fun n => ![n]) (five _ _ p (iv1 k) (by have := lt1 k; omega) hp)

theorem slot1 (k : Fin k0_t1_loop.trips) : (Scalar.remsi (Scf.iv 0#32 1#32 k.val) 16#32).toNat = k.val :=
  (rem16 _ _ (iv1 k) (by have := lt1 k; omega)).trans (Nat.mod_eq_of_lt (lt1 k))

theorem off2 (k : Fin k0_t1_loop.trips) : k0_off2 k = ![k.val] := congrArg (fun n => ![n]) (slot1 k)
theorem off5 (k : Fin k0_t1_loop.trips) : k0_off5 k = ![k.val] := congrArg (fun n => ![n]) (slot1 k)
theorem off8 (k : Fin k0_t1_loop.trips) : k0_off8 k = ![k.val] := congrArg (fun n => ![n]) (slot1 k)
theorem off11 (k : Fin k0_t1_loop.trips) : k0_off11 k = ![k.val] := congrArg (fun n => ![n]) (slot1 k)
theorem off14 (k : Fin k0_t1_loop.trips) : k0_off14 k = ![k.val] := congrArg (fun n => ![n]) (slot1 k)
theorem off3 (k : Fin k0_t1_loop.trips) : k0_off3 k = ![k.val, 0, 0] := congrArg (fun n => ![n, 0, 0]) (slot1 k)
theorem off6 (k : Fin k0_t1_loop.trips) : k0_off6 k = ![k.val, 1, 0] := congrArg (fun n => ![n, 1, 0]) (slot1 k)
theorem off9 (k : Fin k0_t1_loop.trips) : k0_off9 k = ![k.val, 2, 0] := congrArg (fun n => ![n, 2, 0]) (slot1 k)
theorem off12 (k : Fin k0_t1_loop.trips) : k0_off12 k = ![k.val, 3, 0] := congrArg (fun n => ![n, 3, 0]) (slot1 k)
theorem off15 (k : Fin k0_t1_loop.trips) : k0_off15 k = ![k.val, 4, 0] := congrArg (fun n => ![n, 4, 0]) (slot1 k)

/-- A query trip starts the copies of the query sixteen on exactly when there is one. -/
theorem cond2 (i : grid0.Coords) (t : Fin k0_t3_loop.trips) : k0_cond2 i t = 1#1 ↔ qn i t + 16 < 2600 := by
  have h := qw16 i t
  have hl := qn_lt i t
  have e : k0_cond2 i t = Scalar.cmpi .ne (Scalar.extui (Scalar.cmpi .slt
    (Scalar.addi (Scalar.addi (Scalar.muli (BitVec.ofNat 32 (i 0).val) 104#32) (Scf.iv 0#32 1#32 t.val)) 16#32) 2600#32) : BitVec 32) 0#32 := rfl
  rw [e]
  generalize Scalar.addi (Scalar.addi (Scalar.muli (BitVec.ofNat 32 (i 0).val) 104#32) (Scf.iv 0#32 1#32 t.val)) 16#32 = w at h
  have hs : w.slt 2600#32 = decide (qn i t + 16 < 2600) := by
    rw [BitVec.slt_eq_decide, BitVec.toInt_eq_toNat_of_lt (by omega), h]
    have h2 : (2600#32 : BitVec 32).toInt = 2600 := by decide
    rw [h2]
    exact decide_eq_decide.mpr ⟨fun h => by exact_mod_cast h, fun h => by exact_mod_cast h⟩
  show Scalar.cmpi .ne (Scalar.extui (BitVec.ofBool (w.slt 2600#32)) : BitVec 32) 0#32 = 1#1 ↔ _
  rw [hs]
  by_cases hc : qn i t + 16 < 2600
  · rw [decide_eq_true hc]; exact ⟨fun _ => hc, fun _ => by decide⟩
  · rw [decide_eq_false hc]; exact ⟨fun h => absurd h (by decide), fun h => absurd h hc⟩

/-- The prologue runs at the first grid point alone. -/
theorem cond1 (i : grid0.Coords) : k0_cond1 i = 1#1 ↔ (i 0).val = 0 := by
  have h : ∀ n : Fin 25, Scalar.cmpi .ne (Scalar.extui (Scalar.cmpi .eq (BitVec.ofNat 32 n.val) 0#32) : BitVec 32) 0#32 = 1#1 ↔ n.val = 0 := by
    decide
  exact h ⟨(i 0).val, ltG i⟩

theorem trips2 : k0_t2_loop.trips = 13 := by decide
theorem lt2 (k : Fin k0_t2_loop.trips) : k.val < 13 := trips2 ▸ k.isLt

/-- The first row of trip `k` of the tables' loop, plus `b`. -/
theorem row2 (k : Fin k0_t2_loop.trips) (b : ℕ) (hb : b < 8) :
    (Scalar.addi (Scalar.muli (Scf.iv 0#32 1#32 k.val) 8#32) (BitVec.ofNat 32 b)).toNat = 8 * k.val + b := by
  have := lt2 k
  simp only [Scalar.addi, Scalar.muli, IntOp.addi, IntOp.muli, BitVec.toNat_add, BitVec.toNat_mul, BitVec.toNat_ofNat,
    WordArith.toNat_iv_zero_one k.val (by omega)]
  omega

theorem off17 (k : Fin k0_t2_loop.trips) : k0_off17 k = ![8 * k.val, 0] :=
  congrArg (fun n => ![n, 0]) (show (Scalar.muli (Scf.iv 0#32 1#32 k.val) 8#32).toNat = 8 * k.val by
    have := lt2 k
    simp only [Scalar.muli, IntOp.muli, BitVec.toNat_mul, BitVec.toNat_ofNat, WordArith.toNat_iv_zero_one k.val (by omega)]
    omega)
theorem off18 (k : Fin k0_t2_loop.trips) (b : ℕ) (hb : b < 8) : k0_off18 k (BitVec.ofNat 32 b) = ![8 * k.val + b, 32 * 0, 0] :=
  congrArg (fun n => ![n, 0, 0]) (row2 k b hb)
theorem off19 (k : Fin k0_t2_loop.trips) (b : ℕ) (hb : b < 8) : k0_off19 k (BitVec.ofNat 32 b) = ![8 * k.val + b, 32 * 1, 0] :=
  congrArg (fun n => ![n, 32, 0]) (row2 k b hb)
theorem off20 (k : Fin k0_t2_loop.trips) (b : ℕ) (hb : b < 8) : k0_off20 k (BitVec.ofNat 32 b) = ![8 * k.val + b, 32 * 2, 0] :=
  congrArg (fun n => ![n, 64, 0]) (row2 k b hb)

end Cert.Kernel.Index

end
-- ==== Proof.Family.lean ====
/-
  The ring as a whole: sixteen slots, each free or in flight for one query, and the ring's states along the run. The
  prologue puts queries 0 to 15 in flight; query `n` takes its slot out of flight and puts query `n + 16`, when there is
  one, in its place.
-/
module

public import proofs.«01_k».proof.Proof.Ring
public import proofs.«01_k».proof.Proof.Index

@[expose] public section

noncomputable section

namespace Cert.Kernel.Ring

open Cert.Kernel Cert.Kernel.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- The centroid row of probe `p` of query `q`, by the table of probes. -/
def rowOf (tw : Fin 13000 → BitVec 32) (q : ℕ) (p : Fin 5) : Fin 11000 :=
  Fin.ofNat 11000 (tw (Fin.ofNat 13000 (5 * q + p.val))).toNat

variable (m5 : Memref sig .tc .hbm S11000x640 .f32) (m11 : Memref sig .tc .vmem S16x8x640 .f32) (m12 : DmaSems sig S16)
variable (c : Dev nD) (fs : Buf (Elt F) (m5.view.loc (c : Thread nD τ))) (tw : Fin 13000 → BitVec 32)

/-- Slot `s`: free, or in flight for a query. -/
def slotSt (s : Fin 16) : Option ℕ → sProp 𝕄
  | none => Free m5 m11 m12 c fs s
  | some q => InFlight m5 m11 m12 c fs s (rowOf tw q)

/-- The ring in a state. -/
def Fam (st : Fin 16 → Option ℕ) : sProp 𝕄 := bigSep Finset.univ fun s => slotSt m5 m11 m12 c fs tw s (st s)

/-- The ring without slot `s`. -/
def FamRest (s : Fin 16) (st : Fin 16 → Option ℕ) : sProp 𝕄 :=
  bigSep (Finset.univ.erase s) fun s' => slotSt m5 m11 m12 c fs tw s' (st s')

theorem fam_split (s : Fin 16) (st : Fin 16 → Option ℕ) :
    Fam m5 m11 m12 c fs tw st ⊣⊢ iprop(slotSt m5 m11 m12 c fs tw s (st s) ∗ FamRest m5 m11 m12 c fs tw s st) := by
  have e := bigSep_univ_split (I := Fin 16) s (Φ := fun s => slotSt m5 m11 m12 c fs tw s (st s))
  exact ⟨Entails.of_eq e, Entails.of_eq e.symm⟩

theorem famRest_congr (s : Fin 16) (st st' : Fin 16 → Option ℕ) (h : ∀ s', s' ≠ s → st s' = st' s') :
    FamRest m5 m11 m12 c fs tw s st = FamRest m5 m11 m12 c fs tw s st' :=
  bigSep_congr fun s' hs' => by rw [h s' (Finset.ne_of_mem_erase hs')]

/-- The ring in its next state, from the one slot that changed. -/
theorem fam_next (s : Fin 16) (st st' : Fin 16 → Option ℕ) (h : ∀ s', s' ≠ s → st s' = st' s') :
    iprop(slotSt m5 m11 m12 c fs tw s (st' s) ∗ FamRest m5 m11 m12 c fs tw s st) ⊢ Fam m5 m11 m12 c fs tw st' := by
  rw [famRest_congr m5 m11 m12 c fs tw s st st' h]
  exact (fam_split m5 m11 m12 c fs tw s st').2

/-- The ring before prologue trip `k`: the first `k` slots in flight. -/
def pro (k : ℕ) (s : Fin 16) : Option ℕ := if s.val < k then some s.val else none

/-- The query slot `s` is in flight for before query `n`. -/
def qAt (n : ℕ) (s : Fin 16) : ℕ := n + (s.val + 16 - n % 16) % 16

/-- The ring before query `n`: queries `n` to `n + 15`, those there are, in flight. -/
def stAt (n : ℕ) (s : Fin 16) : Option ℕ := if qAt n s < 2600 then some (qAt n s) else none

theorem pro_zero : pro 0 = fun _ => none := funext fun s => if_neg (Nat.not_lt_zero _)

theorem pro_all : pro 16 = stAt 0 := funext fun s => by
  have h : qAt 0 s = s.val := by unfold qAt; omega
  unfold pro stAt
  rw [h, if_pos s.isLt, if_pos (by omega)]

theorem stAt_end : stAt 2600 = fun _ => none := funext fun s => if_neg (by unfold qAt; omega)

theorem pro_other (k : Fin 16) (s : Fin 16) (h : s ≠ k) : pro k.val s = pro (k.val + 1) s := by
  have : s.val ≠ k.val := fun e => h (Fin.ext e)
  unfold pro
  by_cases hs : s.val < k.val
  · rw [if_pos hs, if_pos (by omega)]
  · rw [if_neg hs, if_neg (by omega)]

theorem pro_self (k : Fin 16) : pro k.val k = none := if_neg (lt_irrefl _)
theorem pro_self_next (k : Fin 16) : pro (k.val + 1) k = some k.val := if_pos (Nat.lt_succ_self _)

/-- The slot of query `n`. -/
abbrev slotOf (n : ℕ) : Fin 16 := ⟨n % 16, Nat.mod_lt _ (by omega)⟩

theorem stAt_self (n : ℕ) (h : n < 2600) : stAt n (slotOf n) = some n := by
  have e : qAt n (slotOf n) = n := by unfold qAt; show n + (n % 16 + 16 - n % 16) % 16 = n; omega
  unfold stAt; rw [e, if_pos h]

theorem stAt_next (n : ℕ) : stAt (n + 1) (slotOf n) = if n + 16 < 2600 then some (n + 16) else none := by
  have e : qAt (n + 1) (slotOf n) = n + 16 := by
    unfold qAt; show n + 1 + (n % 16 + 16 - (n + 1) % 16) % 16 = n + 16; omega
  unfold stAt; rw [e]

theorem stAt_other (n : ℕ) (s : Fin 16) (h : s ≠ slotOf n) : stAt n s = stAt (n + 1) s := by
  have hs : s.val ≠ n % 16 := fun e => h (Fin.ext e)
  have e : qAt (n + 1) s = qAt n s := by unfold qAt; omega
  unfold stAt; rw [e]

end Cert.Kernel.Ring

end

end
-- ==== Proof.Words.lean ====
/-
  Reading the table of probes: one word at a time, and the side conditions its words pass.
-/
module

public import proofs.«01_k».proof.Proof.Family

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- Going on under the mask's frame, the shape every rule below ends in. -/
abbrev Wp {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

section Word

variable (m1 : Memref sig .tc .smem S13000 .i32) (c : Dev nD)

/-- The table's words. -/
def words (ft : Buf (Elt F) (m1.view.loc (c : Thread nD τ))) (j : Fin 13000) : BitVec 32 := m1.view.read (Elt F) ft (ix1 j)

theorem word_read (ft : Buf (Elt F) (m1.view.loc (c : Thread nD τ))) (n : ℕ) (hn : n < 13000)
    (h : ∀ a, (![n] : Fin 1 → ℕ) a + S1.size a ≤ S13000.size a) (x : (Rect.unit (s := S13000) ![n] S1.size h).shape.Idx) :
    (m1.access (Rect.unit (s := S13000) ![n] S1.size h)).read (Elt F) ft x = words m1 c ft (Fin.ofNat 13000 n) := by
  unfold words
  have e : (Rect.unit (s := S13000) ![n] S1.size h).emb x = ix1 (Fin.ofNat 13000 n) := by
    refine funext fun a => Fin.ext ?_
    refine (ValueKit.rect_emb_unit_val _ _ _ _ a).trans ?_
    have hx := (x a).isLt
    fin_cases a
    have hx' : (x 0).val < 1 := hx
    show n + (x 0).val = n % 13000
    omega
  rw [← e]; rfl

/-- One element of the table, loaded: the program goes on at the table's word. -/
theorem wp_word (q : PosShare TreeShare) (ft : Buf (Elt F) (m1.view.loc (c : Thread nD τ))) (n : ℕ) (hn : n < 13000)
    {o : Fin 1 → ℕ} (e : o = ![n]) {h : ∀ a, o a + S1.size a ≤ S13000.size a}
    {h1 : (Rect.unit (s := S13000) o S1.size h).shape.numel = 1} {hp : EltTy.i32.packing = 1}
    {α : Type} {Q : α → sProp 𝕄} {K : Elt F .i32 → Prog (TpuEff nD τ sig (Elt F) Λ₀ .tc) α} :
    (m1.view.loc (c : Thread nD τ) ↦{q} ft)
      ⊢ iprop(((m1.view.loc (c : Thread nD τ) ↦{q} ft) -∗ Wp c (K (words m1 c ft (Fin.ofNat 13000 n))) Q)
        -∗ Wp c (smemLoad m1 (Rect.unit (s := S13000) o S1.size h) h1 hp >>= K) Q) := by
  subst e
  have hw := wp_smemLoadElt (defs := defs₀ (F := F)) (Γ := .empty) (Q := Q) (k := K) Variants.none (c : Thread nD τ) none Set.univ
    (m := m1) (r := Rect.unit (s := S13000) ![n] S1.size h) (hw := View.loads_smem_one hp h1)
    (x := Shape.Idx.first (h1.symm ▸ Nat.one_pos)) (q := q) (f := ft) (S := Finset.univ) (Finset.subset_univ _)
  rw [word_read m1 c ft n hn h] at hw
  exact hw

end Word

/-- A side condition that holds, passed. -/
theorem wp_side (c : Dev nD) {P : Prop} {d : Decidable P} (h : P) {α : Type} {Q : α → sProp 𝕄}
    {K : PLift P → Prog (TpuEff nD τ sig (Elt F) Λ₀ .tc) α} :
    Wp c (K ⟨h⟩) Q ⊢ Wp c (Prog.lift (TpuEff.assume P d) >>= K) Q := by
  rw [Prog.bind_lift]
  iintro H
  iapply (wp_assume Variants.none (c : Thread nD τ) none Set.univ h) $$ H

/-- A program that is over. -/
theorem wp_done (c : Dev nD) {α : Type} {Q : α → sProp 𝕄} (a : α) :
    Q a ⊢ Wp c (pure a : Prog (TpuEff nD τ sig (Elt F) Λ₀ .tc) α) Q := by
  unfold Wp
  rw [wp_pure]
  iintro H
  imodintro
  iexact H

/-- A program's first part, then the rest. -/
theorem wp_first (c : Dev nD) {α β : Type} {Q : β → sProp 𝕄} {p : Prog (TpuEff nD τ sig (Elt F) Λ₀ .tc) α}
    {K : α → Prog (TpuEff nD τ sig (Elt F) Λ₀ .tc) β} :
    Wp c p (fun a => Wp c (K a) Q) ⊢ Wp c (p >>= K) Q := Entails.of_eq (wp_bind _ _ _ _ _ _).symm

end Cert.Kernel.Ring

end

end
-- ==== Proof.Rules.lean ====
/-
  The steps of a query trip as the program writes them: waits, loads, stores and conditionals.
-/
module

public import proofs.«01_k».proof.Proof.Words

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Waiting

variable (m5 : Memref sig .tc .hbm S11000x640 .f32) (m11 : Memref sig .tc .vmem S16x8x640 .f32) (m12 : DmaSems sig S16)
  (c : Dev nD) (fs : Buf (Elt F) (m5.view.loc (c : Thread nD τ)))

/-- The waits of a core so far, whichever they are. -/
def Owes : sProp 𝕄 := iprop(∃ W, owes (c : Thread nD τ) 0 W)

/-- One of the first four waits, as the program writes it. -/
theorem wp_waitB (s : Fin 16) (r : Fin 5 → Fin 11000) (f : Buf (Elt F) (m11.view.loc (c : Thread nD τ))) (n u u' : ℕ) (hn : n < 4)
    (hu : u = n * amt m11) (hu' : u' = (n + 1) * amt m11) {o1 : Fin 1 → ℕ} {o2 : Fin 3 → ℕ}
    (h1 : ∀ a, o1 a + S1.size a ≤ S16.size a) (h2 : ∀ a, o2 a + S1x1x640.size a ≤ S16x8x640.size a)
    (e1 : o1 = ![s.val])
    {sp' : Space} {s' : Shape} {e' : EltTy} {srcw : Memref sig .tc sp' s' e'} {hs hd} {α : Type} {Q : α → sProp 𝕄}
    {K : PUnit → Prog (TpuEff nD τ sig (Elt F) Λ₀ .tc) α} :
    iprop(Flight m5 m11 m12 c fs s r f 5 u ∗ Owes c)
      ⊢ iprop((iprop(Flight m5 m11 m12 c fs s r f 5 u' ∗ Owes c) -∗ Wp c (K ⟨⟩) Q)
          -∗ Wp c (Prog.lift (.waitDma2 ((m12.slice (Rect.unit (s := S16) o1 S1.size h1)).squeeze S_ squeezes_S1_S_).sem srcw
              ((m11.slice (Rect.unit (s := S16x8x640) o2 S1x1x640.size h2) (fun _ => rfl)).squeeze S1x640 squeezes_S1x1x640_S1x640) hs hd) >>= K) Q) := by
  subst hu hu'
  rw [Prog.bind_lift]
  unfold Owes
  iintro ⟨HF, ⟨%W, HW⟩⟩ Hk
  iapply (wp_wait m5 m11 m12 c fs s r f n hn h1 h2 e1) $$ [HF HW]
  · isplitl [HF]; · iexact HF
    iexact HW
  iintro ⟨HF, HW⟩
  iapply Hk
  isplitl [HF]; · iexact HF
  iexists _; iexact HW

/-- The last wait, as the program writes it. -/
theorem wp_waitLastB (s : Fin 16) (r : Fin 5 → Fin 11000) (f : Buf (Elt F) (m11.view.loc (c : Thread nD τ)))
    {o1 : Fin 1 → ℕ} {o2 : Fin 3 → ℕ}
    (h1 : ∀ a, o1 a + S1.size a ≤ S16.size a) (h2 : ∀ a, o2 a + S1x1x640.size a ≤ S16x8x640.size a)
    (e1 : o1 = ![s.val])
    {sp' : Space} {s' : Shape} {e' : EltTy} {srcw : Memref sig .tc sp' s' e'} {hs hd} {α : Type} {Q : α → sProp 𝕄}
    {K : PUnit → Prog (TpuEff nD τ sig (Elt F) Λ₀ .tc) α} :
    iprop(Flight m5 m11 m12 c fs s r f 5 (4 * amt m11) ∗ Owes c)
      ⊢ iprop((iprop(Landed m5 m11 m12 c fs s r ∗ Owes c) -∗ Wp c (K ⟨⟩) Q)
          -∗ Wp c (Prog.lift (.waitDma2 ((m12.slice (Rect.unit (s := S16) o1 S1.size h1)).squeeze S_ squeezes_S1_S_).sem srcw
              ((m11.slice (Rect.unit (s := S16x8x640) o2 S1x1x640.size h2) (fun _ => rfl)).squeeze S1x640 squeezes_S1x1x640_S1x640) hs hd) >>= K) Q) := by
  rw [Prog.bind_lift]
  unfold Owes
  iintro ⟨HF, ⟨%W, HW⟩⟩ Hk
  iapply (wp_waitLast m5 m11 m12 c fs s r f h1 h2 e1) $$ [HF HW]
  · isplitl [HF]; · iexact HF
    iexact HW
  iintro ⟨HF, HW⟩
  iapply Hk
  isplitl [HF]; · iexact HF
  iexists _; iexact HW

end Waiting

section Memory

variable (c : Dev nD) {s : Shape} {e : EltTy} (m : Memref sig .tc .vmem s e)

/-- A load of a rectangle, as the program writes it. -/
theorem wp_loadB (S : Finset (Idx (m.view.loc (c : Thread nD τ)))) (q : PosShare TreeShare) (f : Buf (Elt F) (m.view.loc (c : Thread nD τ)))
    {r : Rect s} {hl : m.view.LoadsAt r} (hS : m.view.setOn r.set ⊆ S)
    {α : Type} {Q : α → sProp 𝕄} {K : (r.shape.Idx → Elt F e) → Prog (TpuEff nD τ sig (Elt F) Λ₀ .tc) α} :
    (m.view.loc (c : Thread nD τ) ↦[S]{q} f)
      ⊢ iprop(((m.view.loc (c : Thread nD τ) ↦[S]{q} f) -∗ Wp c (K (m.view.readAt (Elt F) r f)) Q)
        -∗ Wp c (Prog.lift (.load m r.toLoadRect hl) >>= K) Q) := by
  rw [Prog.bind_lift]
  exact wp_load (defs := defs₀ (F := F)) (Γ := .empty) Variants.none (c : Thread nD τ) none Set.univ (cs := .vmem) (m := m)
    (r := r.toLoadRect) (hl := hl) (k := K) (S := S) (q := q) (f := f) hS

/-- A store of a whole rectangle into a buffer held outright, as the program writes it. -/
theorem wp_storeB (f : Buf (Elt F) (m.view.loc (c : Thread nD τ))) {r : Rect s} {w : r.shape.Idx → Elt F e}
    {hx : (m.access r).Stores Finset.univ} {hm : Finset.univ = Finset.univ ∨ ∀ a, r.stride a = 1}
    {α : Type} {Q : α → sProp 𝕄} {K : PUnit → Prog (TpuEff nD τ sig (Elt F) Λ₀ .tc) α} :
    (m.view.loc (c : Thread nD τ) ↦{fullShare} f)
      ⊢ iprop(((m.view.loc (c : Thread nD τ) ↦{fullShare} m.view.writes (Elt F) f [⟨r, w⟩]) -∗ Wp c (K ⟨⟩) Q)
        -∗ Wp c (Prog.lift (.store m r w Finset.univ hx hm) >>= K) Q) := by
  rw [Prog.bind_lift]
  exact wp_store (defs := defs₀ (F := F)) (Γ := .empty) Variants.none (c : Thread nD τ) none Set.univ (cs := .vmem) (m := m)
    (r := r) (w := w) (Mk := Finset.univ) (hx := hx) (hm := hm) (k := K) (S := Finset.univ) (f := f) (Finset.subset_univ _)

/-- A conditional taken. -/
theorem wp_yes {P : Prop} [Decidable P] (h : P) {α : Type} {Q : α → sProp 𝕄} {t : P → Prog (TpuEff nD τ sig (Elt F) Λ₀ .tc) α}
    {e : ¬P → Prog (TpuEff nD τ sig (Elt F) Λ₀ .tc) α} :
    Wp c (t h) Q ⊢ Wp c (dite P t e) Q := by rw [dif_pos h]

/-- A conditional not taken. -/
theorem wp_no {P : Prop} [Decidable P] (h : ¬P) {α : Type} {Q : α → sProp 𝕄} {t : P → Prog (TpuEff nD τ sig (Elt F) Λ₀ .tc) α}
    {e : ¬P → Prog (TpuEff nD τ sig (Elt F) Λ₀ .tc) α} :
    Wp c (e h) Q ⊢ Wp c (dite P t e) Q := by rw [dif_neg h]

end Memory

end Cert.Kernel.Ring

end

end
-- ==== Proof.Trip2.lean ====
/-
  The loop that fills the block's tables: each trip takes eight queries and writes, for each of them and for each
  of the three bands of sub-spaces, a slab of inner products with the codebooks.
-/
module

public import proofs.«01_k».proof.Proof.Rules
public import Idealize.ShloMosaic.Lib.WritesUnit
public import Idealize.ShloMosaic.Lib.Pipeline.Value

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Products

/-- Eight queries against the sub-spaces 0 to 31: row `32 b + m` is query `b` and sub-space `m`. -/
def prod1 (x : Vec F S8x640 .f32) (cb : Vec F S256x256 .bf16) : FVec F S256x256 .f32 :=
  k0_pay6 x k0_pay1 (k0_pay2 x) (k0_pay3 x) (k0_pay4 x) (k0_pay5 x) cb

/-- Eight queries against the sub-spaces 32 to 63: row `32 b + m` is query `b` and sub-space `32 + m`. -/
def prod2 (x : Vec F S8x640 .f32) (cb : Vec F S256x256 .bf16) : FVec F S256x256 .f32 :=
  k0_pay21 x k0_pay15 (k0_pay16 x) (k0_pay17 x) (k0_pay18 x) (k0_pay19 x) (k0_pay20 x) cb

/-- Eight queries against the sub-spaces 64 to 79: row `16 b + m` is query `b` and sub-space `64 + m`. -/
def prod3 (x : Vec F S8x640 .f32) (cb : Vec F S128x256 .bf16) : FVec F S128x256 .f32 :=
  k0_pay40 x (k0_pay33 (iota .tc S16x128 32 [1] iota_S16x128_d1_w32) 8#32 k0_pay31 k0_pay32)
    (k0_pay34 x (iota .tc S16x128 32 [1] iota_S16x128_d1_w32) 8#32 k0_pay31 k0_pay32)
    (k0_pay35 x (iota .tc S16x128 32 [1] iota_S16x128_d1_w32) 8#32 k0_pay31 k0_pay32)
    (k0_pay36 x (iota .tc S16x128 32 [1] iota_S16x128_d1_w32) 8#32 k0_pay31 k0_pay32)
    (k0_pay37 x (iota .tc S16x128 32 [1] iota_S16x128_d1_w32) 8#32 k0_pay31 k0_pay32)
    (k0_pay38 x (iota .tc S16x128 32 [1] iota_S16x128_d1_w32) 8#32 k0_pay31 k0_pay32) (k0_pay39 x) cb

end Products

section Tables

variable (i : grid0.Coords)
  (arg1 : Memref sig .tc .smem S13000 .i32) (harg1 : arg1.IsWhole)
  (arg2 : Memref sig .tc .vmem S104x1280 .bf16) (harg2 : arg2.IsWhole)
  (arg3 : Memref sig .tc .vmem S1280x640 .bf16) (harg3 : arg3.IsWhole)
  (arg4 : Memref sig .tc .vmem S640x256 .bf16) (harg4 : arg4.IsWhole)
  (arg5 : Memref sig .tc .hbm S11000x640 .f32) (harg5 : arg5.IsWhole)
  (arg6 : Memref sig .tc .vmem S1x5x104 .f32) (harg6 : arg6.IsWhole)
  (arg7 : Memref sig .tc .vmem S104x80x256 .f32) (harg7 : arg7.IsWhole)
  (arg8 : Memref sig .tc .vmem S104x640 .bf16) (harg8 : arg8.IsWhole)
  (arg9 : Memref sig .tc .vmem S104x640 .f32) (harg9 : arg9.IsWhole)
  (arg10 : Memref sig .tc .vmem S104x8x128 .f32) (harg10 : arg10.IsWhole)
  (arg11 : Memref sig .tc .vmem S16x8x640 .f32) (harg11 : arg11.IsWhole)
  (arg12 : DmaSems sig S16)
variable (c : Dev nD) (f4 : Buf (Elt F) (arg4.view.loc (c : Thread nD τ))) (f9 : Buf (Elt F) (arg9.view.loc (c : Thread nD τ)))

/-- The rotated queries `8 t` to `8 t + 7`. -/
def rows8 (t : ℕ) : Vec F S8x640 .f32 := fun y => arg9.view.read (Elt F) f9 (ix2 (Fin.ofNat 104 (8 * t + (y 0).val)) (y 1))

/-- The codebook rows of sub-spaces 0 to 31. -/
def cb1 : Vec F S256x256 .bf16 :=
  arg4.view.readAt (Elt F) (Rect.unit (s := S640x256) ![0, 0] S256x256.size inb_S640x256_S256x256_0_0).toLoadRect f4
/-- The codebook rows of sub-spaces 32 to 63. -/
def cb2 : Vec F S256x256 .bf16 :=
  arg4.view.readAt (Elt F) (Rect.unit (s := S640x256) ![256, 0] S256x256.size inb_S640x256_S256x256_256_0).toLoadRect f4
/-- The codebook rows of sub-spaces 64 to 79. -/
def cb3 : Vec F S128x256 .bf16 :=
  arg4.view.readAt (Elt F) (Rect.unit (s := S640x256) ![512, 0] S128x256.size inb_S640x256_S128x256_512_0).toLoadRect f4

/-- The table entry of the block's query `row`, sub-space `m` and code `j`. -/
def lutOf (row : ℕ) (m : Fin 80) (j : Fin 256) : Elt F .f32 :=
  if m.val < 32 then prod1 (rows8 arg9 c f9 (row / 8)) (cb1 arg4 c f4) (ix2 (Fin.ofNat 256 (32 * (row % 8) + m.val)) j)
  else if m.val < 64 then prod2 (rows8 arg9 c f9 (row / 8)) (cb2 arg4 c f4) (ix2 (Fin.ofNat 256 (32 * (row % 8) + (m.val - 32))) j)
  else prod3 (rows8 arg9 c f9 (row / 8)) (cb3 arg4 c f4) (ix2 (Fin.ofNat 128 (16 * (row % 8) + (m.val - 64))) j)

/-- The tables of the first `8 k` queries are done, and of the next eight the first `s` slabs, band by band. -/
def Cells (k s : ℕ) (g : Buf (Elt F) (arg7.view.loc (c : Thread nD τ))) : Prop :=
  ∀ (row : Fin 104) (m : Fin 80) (j : Fin 256), (row.val < 8 * k ∨ (row.val / 8 = k ∧ 8 * (m.val / 32) + row.val % 8 < s)) →
    arg7.view.read (Elt F) g (ix3 row m j) = lutOf arg4 arg9 c f4 f9 row.val m j

/-- A slab of shape `d` holds the entries of query `8 k + b` in band `q`. -/
def Good (k q b : ℕ) {d : Fin 3 → ℕ} (w : (⟨3, d⟩ : Shape).Idx → Elt F .f32) : Prop :=
  ∀ (m : Fin 80) (j : Fin 256) (y : (⟨3, d⟩ : Shape).Idx), m.val = 32 * q + (y 1).val → j.val = (y 2).val →
    w y = lutOf arg4 arg9 c f4 f9 (8 * k + b) m j

theorem good1 (k b o : ℕ) (hb : b < 8) (ho : o = 32 * b) (h : S256x256.Slices ![o, 0] S32x256) (h' : S32x256.ShapeCasts S1x32x256) :
    Good arg4 arg9 c f4 f9 k 0 b (shapeCast S1x32x256 (extractStridedSlice S32x256 ![o, 0]
      (prod1 (rows8 arg9 c f9 k) (cb1 arg4 c f4)) h) h') := by
  intro m j y hm hj
  have h1 : (y 1).val < 32 := (y 1).isLt
  unfold lutOf
  rw [if_pos (by omega), show (8 * k + b) / 8 = k by omega, show (8 * k + b) % 8 = b by omega]
  refine (shapeCast_addUnit_apply ![32, 256] _ h' y).trans (extractStridedSlice_apply _ _ h _ _ fun a => ?_)
  fin_cases a
  · show (32 * b + m.val) % 256 = o + (y 1).val; omega
  · show j.val = 0 + (y 2).val; omega

theorem good2 (k b o : ℕ) (hb : b < 8) (ho : o = 32 * b) (h : S256x256.Slices ![o, 0] S32x256) (h' : S32x256.ShapeCasts S1x32x256) :
    Good arg4 arg9 c f4 f9 k 1 b (shapeCast S1x32x256 (extractStridedSlice S32x256 ![o, 0]
      (prod2 (rows8 arg9 c f9 k) (cb2 arg4 c f4)) h) h') := by
  intro m j y hm hj
  have h1 : (y 1).val < 32 := (y 1).isLt
  unfold lutOf
  rw [if_neg (by omega), if_pos (by omega), show (8 * k + b) / 8 = k by omega, show (8 * k + b) % 8 = b by omega]
  refine (shapeCast_addUnit_apply ![32, 256] _ h' y).trans (extractStridedSlice_apply _ _ h _ _ fun a => ?_)
  fin_cases a
  · show (32 * b + (m.val - 32)) % 256 = o + (y 1).val; omega
  · show j.val = 0 + (y 2).val; omega

theorem good3 (k b o : ℕ) (hb : b < 8) (ho : o = 16 * b) (h : S128x256.Slices ![o, 0] S16x256) (h' : S16x256.ShapeCasts S1x16x256) :
    Good arg4 arg9 c f4 f9 k 2 b (shapeCast S1x16x256 (extractStridedSlice S16x256 ![o, 0]
      (prod3 (rows8 arg9 c f9 k) (cb3 arg4 c f4)) h) h') := by
  intro m j y hm hj
  have h1 : (y 1).val < 16 := (y 1).isLt
  unfold lutOf
  rw [if_neg (by omega), if_neg (by omega), show (8 * k + b) / 8 = k by omega, show (8 * k + b) % 8 = b by omega]
  refine (shapeCast_addUnit_apply ![16, 256] _ h' y).trans (extractStridedSlice_apply _ _ h _ _ fun a => ?_)
  fin_cases a
  · show (16 * b + (m.val - 64)) % 128 = o + (y 1).val; omega
  · show j.val = 0 + (y 2).val; omega

/-- One slab more. -/
theorem cells_next (k s q b : ℕ) (hk : k < 13) (hb : b < 8) (hs : s = 8 * q + b) (g : Buf (Elt F) (arg7.view.loc (c : Thread nD τ)))
    (hg : Cells arg4 arg7 arg9 c f4 f9 k s g) {o d : Fin 3 → ℕ} (e : o = ![8 * k + b, 32 * q, 0]) (h : ∀ a, o a + d a ≤ S104x80x256.size a)
    (d0 : d 0 = 1) (d1 : 32 * q + d 1 = min (32 * q + 32) 80) (d2 : d 2 = 256)
    (w : (⟨3, d⟩ : Shape).Idx → Elt F .f32) (hw : Good arg4 arg9 c f4 f9 k q b w) :
    Cells arg4 arg7 arg9 c f4 f9 k (s + 1) (arg7.view.writes (Elt F) g [⟨Rect.unit (s := S104x80x256) o d h, w⟩]) := by
  intro row m j hr
  by_cases hin : row.val = 8 * k + b ∧ m.val / 32 = q
  · have hm := m.isLt
    have hj := j.isLt
    rw [hin.1]
    let x : (⟨3, d⟩ : Shape).Idx := fun a => match a with
      | 0 => ⟨0, by show 0 < d 0; omega⟩
      | 1 => ⟨m.val - 32 * q, by show _ < d 1; omega⟩
      | 2 => ⟨j.val, by show _ < d 2; omega⟩
    refine (View.read_writes_cons_unit_of_mem arg7.view g h w [] _ x e fun a => ?_).trans (hw m j x ?_ rfl)
    · fin_cases a
      · show row.val = 8 * k + b + 0; omega
      · show m.val = 32 * q + (m.val - 32 * q); omega
      · show j.val = 0 + j.val; omega
    · show m.val = 32 * q + (m.val - 32 * q); omega
  · have hold : arg7.view.read (Elt F) (arg7.view.writes (Elt F) g [⟨Rect.unit (s := S104x80x256) o d h, w⟩]) (ix3 row m j)
        = arg7.view.read (Elt F) (arg7.view.writes (Elt F) g []) (ix3 row m j) := by
      by_cases hrow : row.val = 8 * k + b
      · refine View.read_writes_cons_unit_of_not_mem arg7.view g h w [] _ e (1 : Fin 3) ?_
        show m.val < 32 * q ∨ 32 * q + d 1 ≤ m.val
        omega
      · refine View.read_writes_cons_unit_of_not_mem arg7.view g h w [] _ e (0 : Fin 3) ?_
        show row.val < 8 * k + b ∨ 8 * k + b + d 0 ≤ row.val
        omega
    rw [hold, View.writes_nil]
    exact hg row m j (by omega)

/-- Twenty-four slabs are eight whole tables. -/
theorem cells_end (k : ℕ) (g : Buf (Elt F) (arg7.view.loc (c : Thread nD τ))) (hg : Cells arg4 arg7 arg9 c f4 f9 k 24 g) :
    Cells arg4 arg7 arg9 c f4 f9 (k + 1) 0 g := fun row m j hr => hg row m j (by have := m.isLt; omega)

/-- The tables so far, held. -/
def Tab (k s : ℕ) : sProp 𝕄 :=
  iprop(∃ g, ⌜Cells arg4 arg7 arg9 c f4 f9 k s g⌝ ∗ arg7.view.loc (c : Thread nD τ) ↦{fullShare} g)

/-- A read of the tables, whose result the program throws away. -/
theorem wp_glance (k s : ℕ) {r : Rect S104x80x256} {hl : arg7.view.LoadsAt r} {α : Type} {Q : α → sProp 𝕄}
    {K : (r.shape.Idx → Elt F .f32) → Prog (TpuEff nD τ sig (Elt F) Λ₀ .tc) α} (P : Prog (TpuEff nD τ sig (Elt F) Λ₀ .tc) α) (hK : ∀ v, K v = P) :
    Tab arg4 arg7 arg9 c f4 f9 k s ⊢ iprop((Tab arg4 arg7 arg9 c f4 f9 k s -∗ Wp c P Q)
      -∗ Wp c (Prog.lift (.load arg7 r.toLoadRect hl) >>= K) Q) := by
  unfold Tab
  iintro ⟨%g, %hg, Hg⟩ HK
  iapply (wp_loadB c arg7 Finset.univ fullShare g (Finset.subset_univ _)) $$ Hg
  iintro Hg
  rw [hK]
  iapply HK
  iexists g
  isplitr; · ipureintro; exact hg
  iexact Hg

/-- A read of the tables, whose result the program keeps by name. -/
theorem wp_peek (k s : ℕ) {r : Rect S104x80x256} {hl : arg7.view.LoadsAt r} {α : Type} {Q : α → sProp 𝕄}
    {K : (r.shape.Idx → Elt F .f32) → Prog (TpuEff nD τ sig (Elt F) Λ₀ .tc) α} :
    Tab arg4 arg7 arg9 c f4 f9 k s ⊢ iprop((∀ v, Tab arg4 arg7 arg9 c f4 f9 k s -∗ Wp c (K v) Q)
      -∗ Wp c (Prog.lift (.load arg7 r.toLoadRect hl) >>= K) Q) := by
  unfold Tab
  iintro ⟨%g, %hg, Hg⟩ HK
  iapply (wp_loadB c arg7 Finset.univ fullShare g (Finset.subset_univ _)) $$ Hg
  iintro Hg
  iapply HK
  iexists g
  isplitr; · ipureintro; exact hg
  iexact Hg

/-- One slab stored. -/
theorem wp_slab (k s q b : ℕ) (hk : k < 13) (hb : b < 8) (hs : s = 8 * q + b) {o d : Fin 3 → ℕ} (e : o = ![8 * k + b, 32 * q, 0])
    (d0 : d 0 = 1) (d1 : 32 * q + d 1 = min (32 * q + 32) 80) (d2 : d 2 = 256)
    {h : ∀ a, o a + d a ≤ S104x80x256.size a} {w : (⟨3, d⟩ : Shape).Idx → Elt F .f32} (hw : Good arg4 arg9 c f4 f9 k q b w)
    {hx : (arg7.access (Rect.unit (s := S104x80x256) o d h)).Stores Finset.univ}
    {hm : Finset.univ = Finset.univ ∨ ∀ a, (Rect.unit (s := S104x80x256) o d h).stride a = 1}
    {α : Type} {Q : α → sProp 𝕄} {K : PUnit → Prog (TpuEff nD τ sig (Elt F) Λ₀ .tc) α} :
    Tab arg4 arg7 arg9 c f4 f9 k s ⊢ iprop((Tab arg4 arg7 arg9 c f4 f9 k (s + 1) -∗ Wp c (K ⟨⟩) Q)
      -∗ Wp c (Prog.lift (.store arg7 (Rect.unit (s := S104x80x256) o d h) w Finset.univ hx hm) >>= K) Q) := by
  unfold Tab
  iintro ⟨%g, %hg, Hg⟩ HK
  iapply (wp_storeB c arg7 g) $$ Hg
  iintro Hg
  iapply HK
  iexists _
  isplitr; swap; iexact Hg
  ipureintro
  exact cells_next arg4 arg7 arg9 c f4 f9 k s q b hk hb hs g hg e h d0 d1 d2 w hw

/-- The rows a trip loads. -/
theorem load57 (k : Fin k0_t2_loop.trips) (h : ∀ a, k0_off17 k a + S8x640.size a ≤ S104x640.size a) :
    arg9.view.readAt (Elt F) (Rect.unit (s := S104x640) (k0_off17 k) S8x640.size h).toLoadRect f9 = rows8 arg9 c f9 k.val := by
  have hk := lt2 k
  funext x
  unfold rows8
  rw [View.readAt_apply]
  refine congrArg _ (funext fun a => Fin.ext ?_)
  refine (ValueKit.rect_emb_unit_val _ _ _ _ a).trans ((congrArg (· + (x a).val) (congrFun (off17 k) a)).trans ?_)
  have h0 : (x 0).val < 8 := (x 0).isLt
  fin_cases a
  · show 8 * k.val + (x 0).val = (8 * k.val + (x 0).val) % 104; omega
  · show 0 + (x 1).val = (x 1).val; omega

/-- What the loop holds: the codebooks, the rotated queries and the tables so far. -/
def Inv2 (k : ℕ) : sProp 𝕄 :=
  iprop((arg4.view.loc (c : Thread nD τ) ↦{fullShare} f4) ∗ (arg9.view.loc (c : Thread nD τ) ↦{fullShare} f9)
    ∗ Tab arg4 arg7 arg9 c f4 f9 k 0)

set_option maxHeartbeats 4000000 in
/-- One trip. -/
theorem trip2 (k : Fin k0_t2_loop.trips) :
    Inv2 arg4 arg7 arg9 c f4 f9 k.val ⊢ Wp c (k0_t2_body i arg1 harg1 arg2 harg2 arg3 harg3 arg4 harg4 arg5 harg5 arg6 harg6 arg7 harg7 arg8 harg8 arg9 harg9 arg10 harg10 arg11 harg11 arg12 k ()) (fun _ => Inv2 arg4 arg7 arg9 c f4 f9 (k.val + 1)) := by
  have hk := lt2 k
  unfold k0_t2_body Inv2
  rw [k0_part2_eq_skeleton, k0_part3_eq_skeleton, k0_part4_eq_skeleton, k0_part5_eq_skeleton, k0_part6_eq_skeleton,
    k0_part7_eq_skeleton, k0_part8_eq_skeleton, k0_part9_eq_skeleton]
  unfold k0_part2_skel k0_part3_skel k0_part4_skel k0_part5_skel k0_part6_skel k0_part7_skel k0_part8_skel k0_part9_skel
  dsimp only
  iintro ⟨H4, H9, HT⟩
  iapply (wp_first c)
  iapply (wp_loadB c arg9 Finset.univ fullShare f9 (Finset.subset_univ _)) $$ H9
  iintro H9
  rw [load57 arg9 c f9 k]
  iapply (wp_done c)
  try dsimp only
  iapply (wp_first c)
  iapply (wp_loadB c arg4 Finset.univ fullShare f4 (Finset.subset_univ _)) $$ H4
  iintro H4
  iapply (wp_glance arg4 arg7 arg9 c f4 f9 k.val 0 _ (fun _ => rfl)) $$ HT
  iintro HT
  iapply (wp_slab arg4 arg7 arg9 c f4 f9 k.val 0 0 0 hk (by omega) rfl (off18 k 0 (by omega)) rfl rfl rfl (good1 arg4 arg9 c f4 f9 k.val 0 0 (by omega) rfl slices_S256x256_o0_0_S32x256 shapeCasts_S32x256_S1x32x256)) $$ HT
  iintro HT
  iapply (wp_glance arg4 arg7 arg9 c f4 f9 k.val 1 _ (fun _ => rfl)) $$ HT
  iintro HT
  iapply (wp_slab arg4 arg7 arg9 c f4 f9 k.val 1 0 1 hk (by omega) rfl (off18 k 1 (by omega)) rfl rfl rfl (good1 arg4 arg9 c f4 f9 k.val 1 32 (by omega) rfl slices_S256x256_o32_0_S32x256 shapeCasts_S32x256_S1x32x256)) $$ HT
  iintro HT
  iapply (wp_done c)
  try dsimp only
  iapply (wp_first c)
  iapply (wp_glance arg4 arg7 arg9 c f4 f9 k.val 2 _ (fun _ => rfl)) $$ HT
  iintro HT
  iapply (wp_slab arg4 arg7 arg9 c f4 f9 k.val 2 0 2 hk (by omega) rfl (off18 k 2 (by omega)) rfl rfl rfl (good1 arg4 arg9 c f4 f9 k.val 2 64 (by omega) rfl slices_S256x256_o64_0_S32x256 shapeCasts_S32x256_S1x32x256)) $$ HT
  iintro HT
  iapply (wp_glance arg4 arg7 arg9 c f4 f9 k.val 3 _ (fun _ => rfl)) $$ HT
  iintro HT
  iapply (wp_slab arg4 arg7 arg9 c f4 f9 k.val 3 0 3 hk (by omega) rfl (off18 k 3 (by omega)) rfl rfl rfl (good1 arg4 arg9 c f4 f9 k.val 3 96 (by omega) rfl slices_S256x256_o96_0_S32x256 shapeCasts_S32x256_S1x32x256)) $$ HT
  iintro HT
  iapply (wp_glance arg4 arg7 arg9 c f4 f9 k.val 4 _ (fun _ => rfl)) $$ HT
  iintro HT
  iapply (wp_slab arg4 arg7 arg9 c f4 f9 k.val 4 0 4 hk (by omega) rfl (off18 k 4 (by omega)) rfl rfl rfl (good1 arg4 arg9 c f4 f9 k.val 4 128 (by omega) rfl slices_S256x256_o128_0_S32x256 shapeCasts_S32x256_S1x32x256)) $$ HT
  iintro HT
  iapply (wp_glance arg4 arg7 arg9 c f4 f9 k.val 5 _ (fun _ => rfl)) $$ HT
  iintro HT
  iapply (wp_slab arg4 arg7 arg9 c f4 f9 k.val 5 0 5 hk (by omega) rfl (off18 k 5 (by omega)) rfl rfl rfl (good1 arg4 arg9 c f4 f9 k.val 5 160 (by omega) rfl slices_S256x256_o160_0_S32x256 shapeCasts_S32x256_S1x32x256)) $$ HT
  iintro HT
  iapply (wp_glance arg4 arg7 arg9 c f4 f9 k.val 6 _ (fun _ => rfl)) $$ HT
  iintro HT
  iapply (wp_slab arg4 arg7 arg9 c f4 f9 k.val 6 0 6 hk (by omega) rfl (off18 k 6 (by omega)) rfl rfl rfl (good1 arg4 arg9 c f4 f9 k.val 6 192 (by omega) rfl slices_S256x256_o192_0_S32x256 shapeCasts_S32x256_S1x32x256)) $$ HT
  iintro HT
  iapply (wp_glance arg4 arg7 arg9 c f4 f9 k.val 7 _ (fun _ => rfl)) $$ HT
  iintro HT
  iapply (wp_slab arg4 arg7 arg9 c f4 f9 k.val 7 0 7 hk (by omega) rfl (off18 k 7 (by omega)) rfl rfl rfl (good1 arg4 arg9 c f4 f9 k.val 7 224 (by omega) rfl slices_S256x256_o224_0_S32x256 shapeCasts_S32x256_S1x32x256)) $$ HT
  iintro HT
  iapply (wp_done c)
  try dsimp only
  iapply (wp_first c)
  iapply (wp_done c)
  try dsimp only
  iapply (wp_first c)
  iapply (wp_loadB c arg4 Finset.univ fullShare f4 (Finset.subset_univ _)) $$ H4
  iintro H4
  iapply (wp_glance arg4 arg7 arg9 c f4 f9 k.val 8 _ (fun _ => rfl)) $$ HT
  iintro HT
  iapply (wp_slab arg4 arg7 arg9 c f4 f9 k.val 8 1 0 hk (by omega) rfl (off19 k 0 (by omega)) rfl rfl rfl (good2 arg4 arg9 c f4 f9 k.val 0 0 (by omega) rfl slices_S256x256_o0_0_S32x256 shapeCasts_S32x256_S1x32x256)) $$ HT
  iintro HT
  iapply (wp_glance arg4 arg7 arg9 c f4 f9 k.val 9 _ (fun _ => rfl)) $$ HT
  iintro HT
  iapply (wp_slab arg4 arg7 arg9 c f4 f9 k.val 9 1 1 hk (by omega) rfl (off19 k 1 (by omega)) rfl rfl rfl (good2 arg4 arg9 c f4 f9 k.val 1 32 (by omega) rfl slices_S256x256_o32_0_S32x256 shapeCasts_S32x256_S1x32x256)) $$ HT
  iintro HT
  iapply (wp_peek arg4 arg7 arg9 c f4 f9 k.val 10) $$ HT
  iintro %v HT
  iapply (wp_done c)
  try dsimp only
  iapply (wp_first c)
  iapply (wp_slab arg4 arg7 arg9 c f4 f9 k.val 10 1 2 hk (by omega) rfl (off19 k 2 (by omega)) rfl rfl rfl (good2 arg4 arg9 c f4 f9 k.val 2 64 (by omega) rfl slices_S256x256_o64_0_S32x256 shapeCasts_S32x256_S1x32x256)) $$ HT
  iintro HT
  iapply (wp_glance arg4 arg7 arg9 c f4 f9 k.val 11 _ (fun _ => rfl)) $$ HT
  iintro HT
  iapply (wp_slab arg4 arg7 arg9 c f4 f9 k.val 11 1 3 hk (by omega) rfl (off19 k 3 (by omega)) rfl rfl rfl (good2 arg4 arg9 c f4 f9 k.val 3 96 (by omega) rfl slices_S256x256_o96_0_S32x256 shapeCasts_S32x256_S1x32x256)) $$ HT
  iintro HT
  iapply (wp_glance arg4 arg7 arg9 c f4 f9 k.val 12 _ (fun _ => rfl)) $$ HT
  iintro HT
  iapply (wp_slab arg4 arg7 arg9 c f4 f9 k.val 12 1 4 hk (by omega) rfl (off19 k 4 (by omega)) rfl rfl rfl (good2 arg4 arg9 c f4 f9 k.val 4 128 (by omega) rfl slices_S256x256_o128_0_S32x256 shapeCasts_S32x256_S1x32x256)) $$ HT
  iintro HT
  iapply (wp_glance arg4 arg7 arg9 c f4 f9 k.val 13 _ (fun _ => rfl)) $$ HT
  iintro HT
  iapply (wp_slab arg4 arg7 arg9 c f4 f9 k.val 13 1 5 hk (by omega) rfl (off19 k 5 (by omega)) rfl rfl rfl (good2 arg4 arg9 c f4 f9 k.val 5 160 (by omega) rfl slices_S256x256_o160_0_S32x256 shapeCasts_S32x256_S1x32x256)) $$ HT
  iintro HT
  iapply (wp_glance arg4 arg7 arg9 c f4 f9 k.val 14 _ (fun _ => rfl)) $$ HT
  iintro HT
  iapply (wp_slab arg4 arg7 arg9 c f4 f9 k.val 14 1 6 hk (by omega) rfl (off19 k 6 (by omega)) rfl rfl rfl (good2 arg4 arg9 c f4 f9 k.val 6 192 (by omega) rfl slices_S256x256_o192_0_S32x256 shapeCasts_S32x256_S1x32x256)) $$ HT
  iintro HT
  iapply (wp_glance arg4 arg7 arg9 c f4 f9 k.val 15 _ (fun _ => rfl)) $$ HT
  iintro HT
  iapply (wp_slab arg4 arg7 arg9 c f4 f9 k.val 15 1 7 hk (by omega) rfl (off19 k 7 (by omega)) rfl rfl rfl (good2 arg4 arg9 c f4 f9 k.val 7 224 (by omega) rfl slices_S256x256_o224_0_S32x256 shapeCasts_S32x256_S1x32x256)) $$ HT
  iintro HT
  iapply (wp_done c)
  try dsimp only
  iapply (wp_first c)
  iapply (wp_done c)
  try dsimp only
  iapply (wp_first c)
  iapply (wp_loadB c arg4 Finset.univ fullShare f4 (Finset.subset_univ _)) $$ H4
  iintro H4
  iapply (wp_glance arg4 arg7 arg9 c f4 f9 k.val 16 _ (fun _ => rfl)) $$ HT
  iintro HT
  iapply (wp_slab arg4 arg7 arg9 c f4 f9 k.val 16 2 0 hk (by omega) rfl (off20 k 0 (by omega)) rfl rfl rfl (good3 arg4 arg9 c f4 f9 k.val 0 0 (by omega) rfl slices_S128x256_o0_0_S16x256 shapeCasts_S16x256_S1x16x256)) $$ HT
  iintro HT
  iapply (wp_glance arg4 arg7 arg9 c f4 f9 k.val 17 _ (fun _ => rfl)) $$ HT
  iintro HT
  iapply (wp_slab arg4 arg7 arg9 c f4 f9 k.val 17 2 1 hk (by omega) rfl (off20 k 1 (by omega)) rfl rfl rfl (good3 arg4 arg9 c f4 f9 k.val 1 16 (by omega) rfl slices_S128x256_o16_0_S16x256 shapeCasts_S16x256_S1x16x256)) $$ HT
  iintro HT
  iapply (wp_glance arg4 arg7 arg9 c f4 f9 k.val 18 _ (fun _ => rfl)) $$ HT
  iintro HT
  iapply (wp_slab arg4 arg7 arg9 c f4 f9 k.val 18 2 2 hk (by omega) rfl (off20 k 2 (by omega)) rfl rfl rfl (good3 arg4 arg9 c f4 f9 k.val 2 32 (by omega) rfl slices_S128x256_o32_0_S16x256 shapeCasts_S16x256_S1x16x256)) $$ HT
  iintro HT
  iapply (wp_done c)
  try dsimp only
  iapply (wp_glance arg4 arg7 arg9 c f4 f9 k.val 19 _ (fun _ => rfl)) $$ HT
  iintro HT
  iapply (wp_slab arg4 arg7 arg9 c f4 f9 k.val 19 2 3 hk (by omega) rfl (off20 k 3 (by omega)) rfl rfl rfl (good3 arg4 arg9 c f4 f9 k.val 3 48 (by omega) rfl slices_S128x256_o48_0_S16x256 shapeCasts_S16x256_S1x16x256)) $$ HT
  iintro HT
  iapply (wp_glance arg4 arg7 arg9 c f4 f9 k.val 20 _ (fun _ => rfl)) $$ HT
  iintro HT
  iapply (wp_slab arg4 arg7 arg9 c f4 f9 k.val 20 2 4 hk (by omega) rfl (off20 k 4 (by omega)) rfl rfl rfl (good3 arg4 arg9 c f4 f9 k.val 4 64 (by omega) rfl slices_S128x256_o64_0_S16x256 shapeCasts_S16x256_S1x16x256)) $$ HT
  iintro HT
  iapply (wp_glance arg4 arg7 arg9 c f4 f9 k.val 21 _ (fun _ => rfl)) $$ HT
  iintro HT
  iapply (wp_slab arg4 arg7 arg9 c f4 f9 k.val 21 2 5 hk (by omega) rfl (off20 k 5 (by omega)) rfl rfl rfl (good3 arg4 arg9 c f4 f9 k.val 5 80 (by omega) rfl slices_S128x256_o80_0_S16x256 shapeCasts_S16x256_S1x16x256)) $$ HT
  iintro HT
  iapply (wp_glance arg4 arg7 arg9 c f4 f9 k.val 22 _ (fun _ => rfl)) $$ HT
  iintro HT
  iapply (wp_slab arg4 arg7 arg9 c f4 f9 k.val 22 2 6 hk (by omega) rfl (off20 k 6 (by omega)) rfl rfl rfl (good3 arg4 arg9 c f4 f9 k.val 6 96 (by omega) rfl slices_S128x256_o96_0_S16x256 shapeCasts_S16x256_S1x16x256)) $$ HT
  iintro HT
  iapply (wp_glance arg4 arg7 arg9 c f4 f9 k.val 23 _ (fun _ => rfl)) $$ HT
  iintro HT
  iapply (wp_slab arg4 arg7 arg9 c f4 f9 k.val 23 2 7 hk (by omega) rfl (off20 k 7 (by omega)) rfl rfl rfl (good3 arg4 arg9 c f4 f9 k.val 7 112 (by omega) rfl slices_S128x256_o112_0_S16x256 shapeCasts_S16x256_S1x16x256)) $$ HT
  iintro HT
  iapply (wp_done c)
  isplitl [H4]; · iexact H4
  isplitl [H9]; · iexact H9
  unfold Tab
  icases HT with ⟨%g, %hg, HT⟩
  iexists g
  isplitr; · ipureintro; exact cells_end arg4 arg7 arg9 c f4 f9 k.val g hg
  iexact HT

end Tables

end Cert.Kernel.Ring

end

end
-- ==== Proof.Trip1.lean ====
/-
  The prologue: trip `k` puts query `k` in flight in slot `k`.
-/
module

public import proofs.«01_k».proof.Proof.Words

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Start

variable (m5 : Memref sig .tc .hbm S11000x640 .f32) (m11 : Memref sig .tc .vmem S16x8x640 .f32) (m12 : DmaSems sig S16)
  (c : Dev nD) (fs : Buf (Elt F) (m5.view.loc (c : Thread nD τ)))

/-- Starting copy `p`, as the program writes it. -/
theorem wp_startB (p : Fin 5) (j j' : ℕ) (hj : p.val = j) (hj' : p.val + 1 = j') (s : Fin 16) (r : Fin 5 → Fin 11000) (f : Buf (Elt F) (m11.view.loc (c : Thread nD τ)))
    {o1 : Fin 1 → ℕ} {o2 : Fin 3 → ℕ} {o3 : Fin 2 → ℕ}
    (h1 : ∀ a, o1 a + S1.size a ≤ S16.size a) (h2 : ∀ a, o2 a + S1x1x640.size a ≤ S16x8x640.size a)
    (h3 : ∀ a, o3 a + S1x640.size a ≤ S11000x640.size a)
    (e1 : o1 = ![s.val]) (e2 : o2 = ![s.val, p.val, 0]) (e3 : o3 = ![(r p).val, 0])
    {hs hd ht} {α : Type} {Q : α → sProp 𝕄} {K : PUnit → Prog (TpuEff nD τ sig (Elt F) Λ₀ .tc) α} :
    Flight m5 m11 m12 c fs s r f j 0
      ⊢ iprop((Flight m5 m11 m12 c fs s r f j' 0 -∗ Wp c (K ⟨⟩) Q)
          -∗ Wp c (Prog.lift (.enqueueDma (m5.slice (Rect.unit (s := S11000x640) o3 S1x640.size h3) (fun _ => rfl))
              (.here ((m11.slice (Rect.unit (s := S16x8x640) o2 S1x1x640.size h2) (fun _ => rfl)).squeeze S1x640 squeezes_S1x1x640_S1x640))
              (.dma ((m12.slice (Rect.unit (s := S16) o1 S1.size h1)).squeeze S_ squeezes_S1_S_).sem) hs hd ht) >>= K) Q) := by
  subst hj hj'
  rw [Prog.bind_lift]
  exact wp_start m5 m11 m12 c fs p s r f h1 h2 h3 e1 e2 e3

end Start

section Prologue

variable (i : grid0.Coords)
  (arg1 : Memref sig .tc .smem S13000 .i32) (harg1 : arg1.IsWhole)
  (arg2 : Memref sig .tc .vmem S104x1280 .bf16) (harg2 : arg2.IsWhole)
  (arg3 : Memref sig .tc .vmem S1280x640 .bf16) (harg3 : arg3.IsWhole)
  (arg4 : Memref sig .tc .vmem S640x256 .bf16) (harg4 : arg4.IsWhole)
  (arg5 : Memref sig .tc .hbm S11000x640 .f32) (harg5 : arg5.IsWhole)
  (arg6 : Memref sig .tc .vmem S1x5x104 .f32) (harg6 : arg6.IsWhole)
  (arg7 : Memref sig .tc .vmem S104x80x256 .f32) (harg7 : arg7.IsWhole)
  (arg8 : Memref sig .tc .vmem S104x640 .bf16) (harg8 : arg8.IsWhole)
  (arg9 : Memref sig .tc .vmem S104x640 .f32) (harg9 : arg9.IsWhole)
  (arg10 : Memref sig .tc .vmem S104x8x128 .f32) (harg10 : arg10.IsWhole)
  (arg11 : Memref sig .tc .vmem S16x8x640 .f32) (harg11 : arg11.IsWhole)
  (arg12 : DmaSems sig S16)
variable (c : Dev nD) (fs : Buf (Elt F) (arg5.view.loc (c : Thread nD τ))) (qt : PosShare TreeShare)
  (ft : Buf (Elt F) (arg1.view.loc (c : Thread nD τ)))

/-- Before trip `k` of the prologue: the table, and the ring with its first `k` slots in flight. -/
def Inv1 (k : ℕ) : sProp 𝕄 :=
  iprop((arg1.view.loc (c : Thread nD τ) ↦{qt} ft) ∗ Fam arg5 arg11 arg12 c fs (words arg1 c ft) (pro k))

theorem trip1 (HT : ∀ j, (words arg1 c ft j).toNat < 11000) (k0_h1 : k0_cond1 i = 1#1) (k : Fin k0_t1_loop.trips) :
    Inv1 arg1 arg5 arg11 arg12 c fs qt ft k.val
      ⊢ Wp c (k0_t1_body i arg1 harg1 arg2 harg2 arg3 harg3 arg4 harg4 arg5 harg5 arg6 harg6 arg7 harg7 arg8 harg8 arg9 harg9 arg10 harg10 arg11 harg11 arg12 k0_h1 k ()) (fun _ => Inv1 arg1 arg5 arg11 arg12 c fs qt ft (k.val + 1)) := by
  have hk := lt1 k
  have hs := (fam_split arg5 arg11 arg12 c fs (words arg1 c ft) ⟨k.val, hk⟩ (pro k.val)).1
  rw [pro_self ⟨k.val, hk⟩] at hs
  have hn := fam_next arg5 arg11 arg12 c fs (words arg1 c ft) ⟨k.val, hk⟩ (pro k.val) (pro (k.val + 1)) (pro_other ⟨k.val, hk⟩)
  rw [pro_self_next ⟨k.val, hk⟩] at hn
  unfold slotSt at hs hn
  dsimp only at hs hn
  have hw : ∀ p : Fin 5, 5 * k.val + p.val < 13000 := fun p => by omega
  have hr : ∀ p : Fin 5, (![(words arg1 c ft (Fin.ofNat 13000 (5 * k.val + p.val))).toNat, 0] : Fin 2 → ℕ)
      = ![(rowOf (words arg1 c ft) k.val p).val, 0] := fun p => by
    rw [show (rowOf (words arg1 c ft) k.val p).val = (words arg1 c ft (Fin.ofNat 13000 (5 * k.val + p.val))).toNat from
      Nat.mod_eq_of_lt (HT _)]
  have hc : ∀ p : Fin 5, ∀ a, (![(words arg1 c ft (Fin.ofNat 13000 (5 * k.val + p.val))).toNat, 0] : Fin 2 → ℕ) a + S1x640.size a
      ≤ S11000x640.size a := fun p => by rw [hr p]; exact src_inb (rowOf (words arg1 c ft) k.val p)
  unfold k0_t1_body Inv1
  rw [k0_part1_eq_skeleton]
  unfold k0_part1_skel
  dsimp only
  iintro ⟨Ht, HF⟩
  ihave HF' := hs $$ HF
  icases HF' with ⟨HF, HR⟩
  imod (open_slot arg5 arg11 arg12 c fs ⟨k.val, hk⟩ (rowOf (words arg1 c ft) k.val) Set.univ) $$ HF with ⟨%f, HF⟩
  iapply (wp_first c)
  iapply (wp_word arg1 c qt ft (5 * k.val + 0) (hw 0) (off1 k 0 (by omega))) $$ Ht
  iintro Ht
  iapply (wp_side c (fun _ => hc 0))
  iapply (wp_word arg1 c qt ft (5 * k.val + 1) (hw 1) (off1 k 1 (by omega))) $$ Ht
  iintro Ht
  iapply (wp_side c (fun _ => hc 1))
  iapply (wp_word arg1 c qt ft (5 * k.val + 2) (hw 2) (off1 k 2 (by omega))) $$ Ht
  iintro Ht
  iapply (wp_side c (fun _ => hc 2))
  iapply (wp_word arg1 c qt ft (5 * k.val + 3) (hw 3) (off1 k 3 (by omega))) $$ Ht
  iintro Ht
  iapply (wp_side c (fun _ => hc 3))
  iapply (wp_word arg1 c qt ft (5 * k.val + 4) (hw 4) (off1 k 4 (by omega))) $$ Ht
  iintro Ht
  iapply (wp_side c (fun _ => hc 4))

  iapply (wp_startB arg5 arg11 arg12 c fs 0 0 1 rfl rfl ⟨k.val, hk⟩ (rowOf (words arg1 c ft) k.val) f _ _ _ (off2 k) (off3 k) (hr 0)) $$ HF
  iintro HF
  iapply (wp_startB arg5 arg11 arg12 c fs 1 1 2 rfl rfl ⟨k.val, hk⟩ (rowOf (words arg1 c ft) k.val) f _ _ _ (off5 k) (off6 k) (hr 1)) $$ HF
  iintro HF
  iapply (wp_done c)
  dsimp only
  iapply (wp_startB arg5 arg11 arg12 c fs 2 2 3 rfl rfl ⟨k.val, hk⟩ (rowOf (words arg1 c ft) k.val) f _ _ _ (off8 k) (off9 k) (hr 2)) $$ HF
  iintro HF
  iapply (wp_startB arg5 arg11 arg12 c fs 3 3 4 rfl rfl ⟨k.val, hk⟩ (rowOf (words arg1 c ft) k.val) f _ _ _ (off11 k) (off12 k) (hr 3)) $$ HF
  iintro HF
  iapply (wp_startB arg5 arg11 arg12 c fs 4 4 5 rfl rfl ⟨k.val, hk⟩ (rowOf (words arg1 c ft) k.val) f _ _ _ (off14 k) (off15 k) (hr 4)) $$ HF
  iintro HF
  iapply (wp_done c)
  isplitl [Ht]; · iexact Ht
  iapply hn
  isplitl [HF]; · unfold InFlight; iexists f; iexact HF
  iexact HR

end Prologue

end Cert.Kernel.Ring

end

end
-- ==== Proof.Trip3.lean ====
/-
  The queries' loop: trip `k` waits for the five centroid rows of its query, stores the partial squared distances, and
  puts the query sixteen on in flight when there is one.
-/
module

public import proofs.«01_k».proof.Proof.Trip1
public import proofs.«01_k».proof.Proof.Rules
public import Idealize.ShloMosaic.Lib.WritesUnit

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Query

variable (i : grid0.Coords)
  (arg1 : Memref sig .tc .smem S13000 .i32) (harg1 : arg1.IsWhole)
  (arg2 : Memref sig .tc .vmem S104x1280 .bf16) (harg2 : arg2.IsWhole)
  (arg3 : Memref sig .tc .vmem S1280x640 .bf16) (harg3 : arg3.IsWhole)
  (arg4 : Memref sig .tc .vmem S640x256 .bf16) (harg4 : arg4.IsWhole)
  (arg5 : Memref sig .tc .hbm S11000x640 .f32) (harg5 : arg5.IsWhole)
  (arg6 : Memref sig .tc .vmem S1x5x104 .f32) (harg6 : arg6.IsWhole)
  (arg7 : Memref sig .tc .vmem S104x80x256 .f32) (harg7 : arg7.IsWhole)
  (arg8 : Memref sig .tc .vmem S104x640 .bf16) (harg8 : arg8.IsWhole)
  (arg9 : Memref sig .tc .vmem S104x640 .f32) (harg9 : arg9.IsWhole)
  (arg10 : Memref sig .tc .vmem S104x8x128 .f32) (harg10 : arg10.IsWhole)
  (arg11 : Memref sig .tc .vmem S16x8x640 .f32) (harg11 : arg11.IsWhole)
  (arg12 : DmaSems sig S16)
variable (c : Dev nD) (fs : Buf (Elt F) (arg5.view.loc (c : Thread nD τ))) (qt : PosShare TreeShare)
  (ft : Buf (Elt F) (arg1.view.loc (c : Thread nD τ))) (f9 : Buf (Elt F) (arg9.view.loc (c : Thread nD τ)))

/-- Row `b` of the rotated queries. -/
def rowX (b : Fin 104) : Vec F S1x640 .f32 := fun x => arg9.view.read (Elt F) f9 (ix2 b (x 1))

/-- The five centroid rows `r`. -/
def rowsC (r : Fin 5 → Fin 11000) : Vec F S1x5x640 .f32 := fun x => arg5.view.read (Elt F) fs (ix2 (r (x 1)) (x 2))

/-- The partial distances of the block's query `b`: per probe, 128 sums of five squares. -/
def part (b : Fin 104) : Vec F S1x5x128 .f32 :=
  k0_pay45 (rowX arg9 c f9 b) (rowsC arg5 c fs (rowOf (words arg1 c ft) (qn i b.val)))

/-- The partial distances of the first `k` queries are there. -/
def Parts (k : ℕ) (g : Buf (Elt F) (arg10.view.loc (c : Thread nD τ))) : Prop :=
  ∀ (b : Fin 104) (p : Fin 5) (l : Fin 128), b.val < k →
    arg10.view.read (Elt F) g (ix3 b (row8 p) l) = part i arg1 arg5 arg9 c fs ft f9 b (ix3 0 p l)

/-- Before trip `k` of the queries' loop. -/
def Inv3 (k : ℕ) : sProp 𝕄 :=
  iprop((arg1.view.loc (c : Thread nD τ) ↦{qt} ft) ∗ Fam arg5 arg11 arg12 c fs (words arg1 c ft) (stAt (qn i k))
    ∗ (arg9.view.loc (c : Thread nD τ) ↦{fullShare} f9)
    ∗ (∃ g, ⌜Parts i arg1 arg5 arg9 arg10 c fs ft f9 k g⌝ ∗ arg10.view.loc (c : Thread nD τ) ↦{fullShare} g) ∗ Owes c)

theorem load9 (k : Fin k0_t3_loop.trips) (h : ∀ a, k0_off37 k a + S1x640.size a ≤ S104x640.size a) :
    arg9.view.readAt (Elt F) (Rect.unit (s := S104x640) (k0_off37 k) S1x640.size h).toLoadRect f9 = rowX arg9 c f9 ⟨k.val, lt3 k⟩ := by
  funext x
  unfold rowX
  rw [View.readAt_apply]
  refine congrArg _ (funext fun a => Fin.ext ?_)
  refine (ValueKit.rect_emb_unit_val _ _ _ _ a).trans ((congrArg (· + (x a).val) (congrFun (off37 k) a)).trans ?_)
  have h0 : (x 0).val < 1 := (x 0).isLt
  fin_cases a
  · show k.val + (x 0).val = k.val; omega
  · show 0 + (x 1).val = (x 1).val; omega

theorem load11 (k : Fin k0_t3_loop.trips) (h : ∀ a, k0_off38 i k a + S1x5x640.size a ≤ S16x8x640.size a)
    (r : Fin 5 → Fin 11000) (g : Buf (Elt F) (arg11.view.loc (c : Thread nD τ)))
    (hg : ∀ (p : Fin 5) (l : Fin 640), arg11.view.read (Elt F) g (ix3 (slotOf (qn i k.val)) (row8 p) l) = arg5.view.read (Elt F) fs (ix2 (r p) l)) :
    arg11.view.readAt (Elt F) (Rect.unit (s := S16x8x640) (k0_off38 i k) S1x5x640.size h).toLoadRect g = rowsC arg5 c fs r := by
  funext x
  unfold rowsC
  rw [View.readAt_apply]
  refine Eq.trans ?_ (hg (x 1) (x 2))
  refine congrArg _ (funext fun a => Fin.ext ?_)
  refine (ValueKit.rect_emb_unit_val _ _ _ _ a).trans ((congrArg (· + (x a).val) (congrFun (off38 i k) a)).trans ?_)
  have h0 : (x 0).val < 1 := (x 0).isLt
  fin_cases a
  · show qn i k.val % 16 + (x 0).val = qn i k.val % 16; omega
  · show 0 + (x 1).val = (x 1).val; omega
  · show 0 + (x 2).val = (x 2).val; omega

theorem rect38_sub (k : Fin k0_t3_loop.trips) (h : ∀ a, k0_off38 i k a + S1x5x640.size a ≤ S16x8x640.size a) :
    arg11.view.setOn (Rect.unit (s := S16x8x640) (k0_off38 i k) S1x5x640.size h).set ⊆ slab arg11 (slotOf (qn i k.val)) := by
  intro j hj
  obtain ⟨y, hy, rfl⟩ := Finset.mem_map.mp hj
  refine arg11.view.mem_setOn.mpr (Finset.mem_filter.mpr ⟨Finset.mem_univ _, ?_⟩)
  have hy' := (Rect.mem_set_unit.mp hy) (0 : Fin 3)
  rw [off38] at hy'
  have h1 : qn i k.val % 16 ≤ (y 0).val := hy'.1
  have h2 : (y 0).val < qn i k.val % 16 + 1 := hy'.2
  show (y 0).val = qn i k.val % 16
  omega

theorem parts_next (k : Fin k0_t3_loop.trips) (g : Buf (Elt F) (arg10.view.loc (c : Thread nD τ)))
    (hg : Parts i arg1 arg5 arg9 arg10 c fs ft f9 k.val g) (h : ∀ a, k0_off39 k a + S1x5x128.size a ≤ S104x8x128.size a) :
    Parts i arg1 arg5 arg9 arg10 c fs ft f9 (k.val + 1) (arg10.view.writes (Elt F) g
      [⟨Rect.unit (s := S104x8x128) (k0_off39 k) S1x5x128.size h, part i arg1 arg5 arg9 c fs ft f9 ⟨k.val, lt3 k⟩⟩]) := by
  intro b p l hb
  by_cases hk : b.val = k.val
  · obtain rfl : b = ⟨k.val, lt3 k⟩ := Fin.ext hk
    refine View.read_writes_cons_unit_of_mem arg10.view g h _ [] _ (ix3 0 p l) (off39 k) fun a => ?_
    fin_cases a
    · show k.val = k.val + 0; omega
    · show p.val = 0 + p.val; omega
    · show l.val = 0 + l.val; omega
  · refine (View.read_writes_cons_unit_of_not_mem arg10.view g h _ [] _ (off39 k) (0 : Fin 3) ?_).trans ?_
    · left; show b.val < k.val; omega
    · rw [View.writes_nil]; exact hg b p l (by omega)

theorem landed_free' (m5 : Memref sig .tc .hbm S11000x640 .f32) (m11 : Memref sig .tc .vmem S16x8x640 .f32) (m12 : DmaSems sig S16)
    (c : Dev nD) (fs : Buf (Elt F) (m5.view.loc (c : Thread nD τ))) (s : Fin 16) (g : Buf (Elt F) (m11.view.loc (c : Thread nD τ))) :
    iprop((m11.view.loc (c : Thread nD τ) ↦[slab m11 s]{fullShare} g) ∗ (m5.view.loc (c : Thread nD τ) ↦{tok s} fs)
      ∗ semVal ((c : Thread nD τ), .dma (cell m12 s)) 0) ⊢ Free m5 m11 m12 c fs s := by
  unfold Free
  iintro ⟨Hg, H5, Hs⟩
  isplitl [Hg]; · iexists g; iexact Hg
  isplitl [H5]; · iexact H5
  iexact Hs

theorem trip3 (HT : ∀ j, (words arg1 c ft j).toNat < 11000) (k : Fin k0_t3_loop.trips) :
    Inv3 i arg1 arg5 arg9 arg10 arg11 arg12 c fs qt ft f9 k.val
      ⊢ Wp c (k0_t3_body i arg1 harg1 arg2 harg2 arg3 harg3 arg4 harg4 arg5 harg5 arg6 harg6 arg7 harg7 arg8 harg8 arg9 harg9 arg10 harg10 arg11 harg11 arg12 (BitVec.ofNat 32 (i 0).val) k ()) (fun _ => Inv3 i arg1 arg5 arg9 arg10 arg11 arg12 c fs qt ft f9 (k.val + 1)) := by
  have hq := qn_lt i k
  have hs := (fam_split arg5 arg11 arg12 c fs (words arg1 c ft) (slotOf (qn i k.val)) (stAt (qn i k.val))).1
  rw [stAt_self _ hq] at hs
  have hn := fam_next arg5 arg11 arg12 c fs (words arg1 c ft) (slotOf (qn i k.val)) (stAt (qn i k.val)) (stAt (qn i k.val + 1)) (stAt_other _)
  rw [stAt_next] at hn
  unfold slotSt at hs hn
  dsimp only at hs hn
  have hw : ∀ p : Fin 5, 5 * qn i k.val + p.val < 13000 := fun p => by omega
  have hr : ∀ (q : ℕ) (p : Fin 5), (![(words arg1 c ft (Fin.ofNat 13000 (5 * q + p.val))).toNat, 0] : Fin 2 → ℕ)
      = ![(rowOf (words arg1 c ft) q p).val, 0] := fun q p => by
    rw [show (rowOf (words arg1 c ft) q p).val = (words arg1 c ft (Fin.ofNat 13000 (5 * q + p.val))).toNat from
      Nat.mod_eq_of_lt (HT _)]
  have hc : ∀ (q : ℕ) (p : Fin 5), ∀ a, (![(words arg1 c ft (Fin.ofNat 13000 (5 * q + p.val))).toNat, 0] : Fin 2 → ℕ) a + S1x640.size a
      ≤ S11000x640.size a := fun q p => by rw [hr q p]; exact src_inb (rowOf (words arg1 c ft) q p)
  unfold k0_t3_body Inv3
  rw [k0_part11_eq_skeleton, k0_part12_eq_skeleton]
  unfold k0_part11_skel k0_part12_skel
  dsimp only
  iintro ⟨Ht, HF, H9, ⟨%g, %hg, Hg⟩, HW⟩
  ihave HF' := hs $$ HF
  icases HF' with ⟨HF, HR⟩
  unfold InFlight
  icases HF with ⟨%f, HF⟩
  iapply (wp_first c)
  iapply (wp_word arg1 c qt ft (5 * (qn i k.val) + 0) (hw 0) (off21 i k 0 (by omega))) $$ Ht
  iintro Ht
  iapply (wp_side c (hc _ 0))
  iapply (wp_word arg1 c qt ft (5 * (qn i k.val) + 1) (hw 1) (off21 i k 1 (by omega))) $$ Ht
  iintro Ht
  iapply (wp_side c (hc _ 1))
  iapply (wp_word arg1 c qt ft (5 * (qn i k.val) + 2) (hw 2) (off21 i k 2 (by omega))) $$ Ht
  iintro Ht
  iapply (wp_side c (hc _ 2))
  iapply (wp_word arg1 c qt ft (5 * (qn i k.val) + 3) (hw 3) (off21 i k 3 (by omega))) $$ Ht
  iintro Ht
  iapply (wp_side c (hc _ 3))
  iapply (wp_word arg1 c qt ft (5 * (qn i k.val) + 4) (hw 4) (off21 i k 4 (by omega))) $$ Ht
  iintro Ht
  iapply (wp_side c (hc _ 4))
  iapply (wp_waitB arg5 arg11 arg12 c fs (slotOf (qn i k.val)) (rowOf (words arg1 c ft) (qn i k.val)) f 0 0 (1 * amt arg11) (by omega) (Nat.zero_mul _).symm rfl _ _ (off22 i k)) $$ [HF HW]
  · isplitl [HF]; · iexact HF
    iexact HW
  iintro ⟨HF, HW⟩
  iapply (wp_done c)
  dsimp only
  iapply (wp_first c)
  iapply (wp_waitB arg5 arg11 arg12 c fs (slotOf (qn i k.val)) (rowOf (words arg1 c ft) (qn i k.val)) f 1 (1 * amt arg11) (2 * amt arg11) (by omega) rfl rfl _ _ (off25 i k)) $$ [HF HW]
  · isplitl [HF]; · iexact HF
    iexact HW
  iintro ⟨HF, HW⟩
  iapply (wp_waitB arg5 arg11 arg12 c fs (slotOf (qn i k.val)) (rowOf (words arg1 c ft) (qn i k.val)) f 2 (2 * amt arg11) (3 * amt arg11) (by omega) rfl rfl _ _ (off28 i k)) $$ [HF HW]
  · isplitl [HF]; · iexact HF
    iexact HW
  iintro ⟨HF, HW⟩
  iapply (wp_waitB arg5 arg11 arg12 c fs (slotOf (qn i k.val)) (rowOf (words arg1 c ft) (qn i k.val)) f 3 (3 * amt arg11) (4 * amt arg11) (by omega) rfl rfl _ _ (off31 i k)) $$ [HF HW]
  · isplitl [HF]; · iexact HF
    iexact HW
  iintro ⟨HF, HW⟩
  iapply (wp_waitLastB arg5 arg11 arg12 c fs (slotOf (qn i k.val)) (rowOf (words arg1 c ft) (qn i k.val)) f _ _ (off34 i k)) $$ [HF HW]
  · isplitl [HF]; · iexact HF
    iexact HW
  iintro ⟨HF, HW⟩
  iapply (wp_loadB c arg9 Finset.univ fullShare f9 (Finset.subset_univ _)) $$ H9
  iintro H9
  unfold Landed
  icases HF with ⟨⟨%gl, %hgl, HL⟩, H5, Hsem⟩
  iapply (wp_loadB c arg11 (slab arg11 (slotOf (qn i k.val))) fullShare gl (rect38_sub i arg11 k _)) $$ HL
  iintro HL
  iapply (wp_loadB c arg10 Finset.univ fullShare g (Finset.subset_univ _)) $$ Hg
  iintro Hg
  iapply (wp_storeB c arg10 g) $$ Hg
  iintro Hg
  iapply (wp_done c)
  ihave HF := (landed_free' arg5 arg11 arg12 c fs (slotOf (qn i k.val)) gl) $$ [HL H5 Hsem]
  · isplitl [HL]; · iexact HL
    isplitl [H5]; · iexact H5
    iexact Hsem
  rw [load9 arg9 c f9 k, load11 i arg5 arg11 c fs k _ _ gl hgl]
  by_cases h2 : k0_cond2 i k = 1#1
  · have hlt := (cond2 i k).mp h2
    rw [if_pos hlt] at hn
    dsimp only at hn
    have hw' : ∀ p : Fin 5, 5 * (qn i k.val + 16) + p.val < 13000 := fun p => by omega
    have hr' := hr (qn i k.val + 16)
    iapply (wp_yes c h2)
    rw [k0_part10_eq_skeleton]
    unfold k0_part10_skel
    dsimp only
    imod (open_slot arg5 arg11 arg12 c fs (slotOf (qn i k.val)) (rowOf (words arg1 c ft) (qn i k.val + 16)) Set.univ) $$ HF with ⟨%f', HF⟩
    iapply (wp_first c)
    iapply (wp_word arg1 c qt ft (5 * (qn i k.val + 16) + 0) (hw' 0) (off40 i k 0 (by omega))) $$ Ht
    iintro Ht
    iapply (wp_side c (fun _ => hc _ 0))
    iapply (wp_word arg1 c qt ft (5 * (qn i k.val + 16) + 1) (hw' 1) (off40 i k 1 (by omega))) $$ Ht
    iintro Ht
    iapply (wp_side c (fun _ => hc _ 1))
    iapply (wp_word arg1 c qt ft (5 * (qn i k.val + 16) + 2) (hw' 2) (off40 i k 2 (by omega))) $$ Ht
    iintro Ht
    iapply (wp_side c (fun _ => hc _ 2))
    iapply (wp_word arg1 c qt ft (5 * (qn i k.val + 16) + 3) (hw' 3) (off40 i k 3 (by omega))) $$ Ht
    iintro Ht
    iapply (wp_side c (fun _ => hc _ 3))
    iapply (wp_word arg1 c qt ft (5 * (qn i k.val + 16) + 4) (hw' 4) (off40 i k 4 (by omega))) $$ Ht
    iintro Ht
    iapply (wp_side c (fun _ => hc _ 4))
    iapply (wp_startB arg5 arg11 arg12 c fs 0 0 1 rfl rfl (slotOf (qn i k.val)) (rowOf (words arg1 c ft) (qn i k.val + 16)) f' _ _ _ (off41 i k) (off42 i k) (hr' 0)) $$ HF
    iintro HF
    iapply (wp_startB arg5 arg11 arg12 c fs 1 1 2 rfl rfl (slotOf (qn i k.val)) (rowOf (words arg1 c ft) (qn i k.val + 16)) f' _ _ _ (off44 i k) (off45 i k) (hr' 1)) $$ HF
    iintro HF
    iapply (wp_done c)
    dsimp only
    iapply (wp_startB arg5 arg11 arg12 c fs 2 2 3 rfl rfl (slotOf (qn i k.val)) (rowOf (words arg1 c ft) (qn i k.val + 16)) f' _ _ _ (off47 i k) (off48 i k) (hr' 2)) $$ HF
    iintro HF
    iapply (wp_startB arg5 arg11 arg12 c fs 3 3 4 rfl rfl (slotOf (qn i k.val)) (rowOf (words arg1 c ft) (qn i k.val + 16)) f' _ _ _ (off50 i k) (off51 i k) (hr' 3)) $$ HF
    iintro HF
    iapply (wp_startB arg5 arg11 arg12 c fs 4 4 5 rfl rfl (slotOf (qn i k.val)) (rowOf (words arg1 c ft) (qn i k.val + 16)) f' _ _ _ (off53 i k) (off54 i k) (hr' 4)) $$ HF
    iintro HF
    iapply (wp_done c)
    isplitl [Ht]; · iexact Ht
    isplitl [HF HR]
    · iapply hn
      isplitl [HF]; · unfold InFlight; iexists f'; iexact HF
      iexact HR
    isplitl [H9]; · iexact H9
    isplitl [Hg]
    · iexists _
      isplitr; swap; iexact Hg
      ipureintro
      exact parts_next i arg1 arg5 arg9 arg10 c fs ft f9 k g hg _
    iexact HW
  · have hlt := fun h => h2 ((cond2 i k).mpr h)
    rw [if_neg hlt] at hn
    dsimp only at hn
    iapply (wp_no c h2)
    iapply (wp_done c)
    isplitl [Ht]; · iexact Ht
    isplitl [HF HR]
    · iapply hn
      isplitl [HF]; · iexact HF
      iexact HR
    isplitl [H9]; · iexact H9
    isplitl [Hg]
    · iexists _
      isplitr; swap; iexact Hg
      ipureintro
      exact parts_next i arg1 arg5 arg9 arg10 c fs ft f9 k g hg _
    iexact HW

end Query

end Cert.Kernel.Ring

end

end
-- ==== Proof.Body.lean ====
/-
  The kernel's body at one grid point: what it holds at entry and at exit, and what it leaves in the three result
  blocks.
-/
module

public import proofs.«01_k».proof.Proof.Trip2
public import proofs.«01_k».proof.Proof.Trip3
public import Idealize.ShloMosaic.Lib.Exec.Context

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- A loop without carried values, from a trip's triple. -/
theorem wp_loopB (c : Dev nD) {w : ℕ} (l : Scf.Loop w) (hok : l.OK) (body : Fin l.trips → PUnit → Prog (TpuEff nD τ sig (Elt F) Λ₀ .tc) PUnit)
    (I : ℕ → sProp 𝕄) (hI : ∀ k, I k.val ⊢ Wp c (body k ⟨⟩) (fun _ => I (k.val + 1)))
    {α : Type} {Q : α → sProp 𝕄} {K : PUnit → Prog (TpuEff nD τ sig (Elt F) Λ₀ .tc) α} :
    I 0 ⊢ iprop((I l.trips -∗ Wp c (K ⟨⟩) Q) -∗ Wp c (Scf.Loop.for l hok ⟨⟩ body >>= K) Q) := by
  iintro HI HK
  iapply (exec_loop frame (wpE (defs₀ (F := F)) Variants.none (c : Thread nD τ) none) Set.univ l.lb l.ub l.st hok ⟨⟩ body
    ⟨fun k _ => I k, fun k _ => hI k⟩) $$ HI
  iintro %acc HI
  iapply HK
  iexact HI

section Body

variable (i : grid0.Coords)
  (arg1 : Memref sig .tc .smem S13000 .i32) (harg1 : arg1.IsWhole)
  (arg2 : Memref sig .tc .vmem S104x1280 .bf16) (harg2 : arg2.IsWhole)
  (arg3 : Memref sig .tc .vmem S1280x640 .bf16) (harg3 : arg3.IsWhole)
  (arg4 : Memref sig .tc .vmem S640x256 .bf16) (harg4 : arg4.IsWhole)
  (arg5 : Memref sig .tc .hbm S11000x640 .f32) (harg5 : arg5.IsWhole)
  (arg6 : Memref sig .tc .vmem S1x5x104 .f32) (harg6 : arg6.IsWhole)
  (arg7 : Memref sig .tc .vmem S104x80x256 .f32) (harg7 : arg7.IsWhole)
  (arg8 : Memref sig .tc .vmem S104x640 .bf16) (harg8 : arg8.IsWhole)
  (arg9 : Memref sig .tc .vmem S104x640 .f32) (harg9 : arg9.IsWhole)
  (arg10 : Memref sig .tc .vmem S104x8x128 .f32) (harg10 : arg10.IsWhole)
  (arg11 : Memref sig .tc .vmem S16x8x640 .f32) (harg11 : arg11.IsWhole)
  (arg12 : DmaSems sig S16)
variable (c : Dev nD) (fs : Buf (Elt F) (arg5.view.loc (c : Thread nD τ))) (qt : PosShare TreeShare)
  (ft : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f9 : Buf (Elt F) (arg9.view.loc (c : Thread nD τ)))

/-- The query block. -/
def blkX : Vec F S104x1280 .bf16 :=
  arg2.view.readAt (Elt F) (Rect.unit (s := S104x1280) ![0, 0] S104x1280.size inb_S104x1280_S104x1280_0_0).toLoadRect f2
/-- The rotation. -/
def blkR : Vec F S1280x640 .bf16 :=
  arg3.view.readAt (Elt F) (Rect.unit (s := S1280x640) ![0, 0] S1280x640.size inb_S1280x640_S1280x640_0_0).toLoadRect f3

/-- Probe `p`'s partial distances, of every query of the block. -/
def partCol (p : Fin 5) : Vec F S104x1x128 .f32 := fun y => part i arg1 arg5 arg9 c fs ft f9 (y 0) (ix3 0 p (y 2))

/-- The coarse distances of the first `s` probes are done. -/
def Rows (s : ℕ) (g : Buf (Elt F) (arg6.view.loc (c : Thread nD τ))) : Prop :=
  ∀ (p : Fin 5) (b : Fin 104), p.val < s → arg6.view.read (Elt F) g (ix3 0 p b) = k0_pay53 (partCol i arg1 arg5 arg9 c fs ft f9 p) (ix3 0 0 b)

/-- Probe `p`'s row of the partial distances, loaded. -/
theorem load10 (p : Fin 5) (g : Buf (Elt F) (arg10.view.loc (c : Thread nD τ))) (hg : Parts i arg1 arg5 arg9 arg10 c fs ft f9 104 g)
    (h : ∀ a, (![0, p.val, 0] : Fin 3 → ℕ) a + S104x1x128.size a ≤ S104x8x128.size a) :
    arg10.view.readAt (Elt F) (Rect.unit (s := S104x8x128) ![0, p.val, 0] S104x1x128.size h).toLoadRect g = partCol i arg1 arg5 arg9 c fs ft f9 p := by
  funext y
  have h1 : (y 1).val < 1 := (y 1).isLt
  have hb : (y 0).val < 104 := (y 0).isLt
  unfold partCol
  rw [View.readAt_apply, ← hg (y 0) p (y 2) hb]
  refine congrArg _ (funext fun a => Fin.ext ?_)
  refine (ValueKit.rect_emb_unit_val _ _ _ _ a).trans ?_
  fin_cases a
  · show 0 + (y 0).val = (y 0).val; omega
  · show p.val + (y 1).val = p.val; omega
  · show 0 + (y 2).val = (y 2).val; omega

theorem rows_next (p : Fin 5) (g : Buf (Elt F) (arg6.view.loc (c : Thread nD τ))) (hg : Rows i arg1 arg5 arg6 arg9 c fs ft f9 p.val g)
    (h : ∀ a, (![0, p.val, 0] : Fin 3 → ℕ) a + S1x1x104.size a ≤ S1x5x104.size a) :
    Rows i arg1 arg5 arg6 arg9 c fs ft f9 (p.val + 1) (arg6.view.writes (Elt F) g
      [⟨Rect.unit (s := S1x5x104) ![0, p.val, 0] S1x1x104.size h, k0_pay53 (partCol i arg1 arg5 arg9 c fs ft f9 p)⟩]) := by
  intro p' b hp
  by_cases hk : p'.val = p.val
  · obtain rfl : p' = p := Fin.ext hk
    refine View.read_writes_cons_unit_of_mem arg6.view g h _ [] _ (ix3 0 0 b) rfl fun a => ?_
    fin_cases a
    · rfl
    · rfl
    · show b.val = 0 + b.val; omega
  · refine (View.read_writes_cons_unit_of_not_mem arg6.view g h _ [] _ rfl (1 : Fin 3) ?_).trans ?_
    · left; show p'.val < p.val; omega
    · rw [View.writes_nil]; exact hg p' b (by omega)

/-- The coarse block so far, held. -/
def Coarse (s : ℕ) : sProp 𝕄 :=
  iprop(∃ g, ⌜Rows i arg1 arg5 arg6 arg9 c fs ft f9 s g⌝ ∗ arg6.view.loc (c : Thread nD τ) ↦{fullShare} g)

/-- The finished partial distances, held. -/
def Done : sProp 𝕄 :=
  iprop(∃ g, ⌜Parts i arg1 arg5 arg9 arg10 c fs ft f9 104 g⌝ ∗ arg10.view.loc (c : Thread nD τ) ↦{fullShare} g)

/-- A probe's partial distances read. -/
theorem wp_column (p : Fin 5) {o : Fin 3 → ℕ} (e : o = ![0, p.val, 0]) {h : ∀ a, o a + S104x1x128.size a ≤ S104x8x128.size a}
    {hl : arg10.view.LoadsAt (Rect.unit (s := S104x8x128) o S104x1x128.size h)} {α : Type} {Q : α → sProp 𝕄}
    {K : (S104x1x128.Idx → Elt F .f32) → Prog (TpuEff nD τ sig (Elt F) Λ₀ .tc) α} :
    Done i arg1 arg5 arg9 arg10 c fs ft f9
      ⊢ iprop((Done i arg1 arg5 arg9 arg10 c fs ft f9 -∗ Wp c (K (partCol i arg1 arg5 arg9 c fs ft f9 p)) Q)
        -∗ Wp c (Prog.lift (.load arg10 (Rect.unit (s := S104x8x128) o S104x1x128.size h).toLoadRect hl) >>= K) Q) := by
  subst e
  unfold Done
  iintro ⟨%g, %hg, Hg⟩ HK
  iapply (wp_loadB c arg10 Finset.univ fullShare g (Finset.subset_univ _)) $$ Hg
  iintro Hg
  rw [load10 i arg1 arg5 arg9 arg10 c fs ft f9 p g hg h]
  iapply HK
  iexists g
  isplitr; · ipureintro; exact hg
  iexact Hg

/-- A probe's coarse distances stored. -/
theorem wp_crow (p : Fin 5) (s s' : ℕ) (hs : s = p.val) (hs' : s' = p.val + 1) {o : Fin 3 → ℕ} (e : o = ![0, p.val, 0])
    {h : ∀ a, o a + S1x1x104.size a ≤ S1x5x104.size a}
    {r' : Rect S1x5x104} {hl : arg6.view.LoadsAt r'} {w : S1x1x104.Idx → Elt F .f32} (hw : w = k0_pay53 (partCol i arg1 arg5 arg9 c fs ft f9 p))
    {hx : (arg6.access (Rect.unit (s := S1x5x104) o S1x1x104.size h)).Stores Finset.univ}
    {hm : Finset.univ = Finset.univ ∨ ∀ a, (Rect.unit (s := S1x5x104) o S1x1x104.size h).stride a = 1}
    {α : Type} {Q : α → sProp 𝕄} {K : PUnit → Prog (TpuEff nD τ sig (Elt F) Λ₀ .tc) α} :
    Coarse i arg1 arg5 arg6 arg9 c fs ft f9 s
      ⊢ iprop((Coarse i arg1 arg5 arg6 arg9 c fs ft f9 s' -∗ Wp c (K ⟨⟩) Q)
        -∗ Wp c (Prog.lift (.load arg6 r'.toLoadRect hl) >>= fun _ =>
            Prog.lift (.store arg6 (Rect.unit (s := S1x5x104) o S1x1x104.size h) w Finset.univ hx hm) >>= K) Q) := by
  subst e hs hs' hw
  unfold Coarse
  iintro ⟨%g, %hg, Hg⟩ HK
  iapply (wp_loadB c arg6 Finset.univ fullShare g (Finset.subset_univ _)) $$ Hg
  iintro Hg
  iapply (wp_storeB c arg6 g) $$ Hg
  iintro Hg
  iapply HK
  iexists _
  isplitr; swap; iexact Hg
  ipureintro
  exact rows_next i arg1 arg5 arg6 arg9 c fs ft f9 p g hg h

/-- Which transfers are in flight when a grid point starts: none at the first, else the next sixteen queries'. -/
def entry (n : ℕ) : Fin 16 → Option ℕ := if n = 0 then pro 0 else stAt (104 * n)

/-- What the body holds at entry and gives back at exit, apart from the window blocks: the probe table, the ring and
    its transfers, two scratch buffers and the waits. -/
def Kept (n : ℕ) : sProp 𝕄 :=
  iprop((arg1.view.loc (c : Thread nD τ) ↦{qt} ft) ∗ Fam arg5 arg11 arg12 c fs (words arg1 c ft) (entry n)
    ∗ (∃ f, arg9.view.loc (c : Thread nD τ) ↦{fullShare} f) ∗ (∃ f, arg10.view.loc (c : Thread nD τ) ↦{fullShare} f) ∗ Owes c)

/-- The contents the body leaves in the scratch buffer of rotated queries: the rotated block over `f`. -/
def scr9 (f : Buf (Elt F) (arg9.view.loc (c : Thread nD τ))) : Buf (Elt F) (arg9.view.loc (c : Thread nD τ)) :=
  arg9.view.writes (Elt F) f [⟨Rect.unit (s := S104x640) ![0, 0] S104x640.size inb_S104x640_S104x640_0_0, k0_pay47 (blkX arg2 c f2) (blkR arg3 c f3)⟩]

/-- The three blocks the body leaves: the rotated queries, the tables and the coarse distances. -/
def Left (f8 : Buf (Elt F) (arg8.view.loc (c : Thread nD τ))) : sProp 𝕄 :=
  iprop((arg8.view.loc (c : Thread nD τ) ↦{fullShare} arg8.view.writes (Elt F) f8
      [⟨Rect.unit (s := S104x640) ![0, 0] S104x640.size inb_S104x640_S104x640_0_0, k0_pay46 (blkX arg2 c f2) (blkR arg3 c f3)⟩])
    ∗ ∃ f, Tab arg4 arg7 arg9 c f4 (scr9 arg2 arg3 arg9 c f2 f3 f) 13 0
      ∗ Coarse i arg1 arg5 arg6 arg9 c fs ft (scr9 arg2 arg3 arg9 c f2 f3 f) 5)

/-- The blocks the body reads. -/
def Blocks : sProp 𝕄 :=
  iprop((arg2.view.loc (c : Thread nD τ) ↦{fullShare} f2) ∗ (arg3.view.loc (c : Thread nD τ) ↦{fullShare} f3)
    ∗ (arg4.view.loc (c : Thread nD τ) ↦{fullShare} f4))

/-- The prologue: at the first grid point the sixteen slots' transfers start. -/
theorem prologue (HT : ∀ j, (words arg1 c ft j).toNat < 11000) {α : Type} {Q : α → sProp 𝕄} {T : Prog (TpuEff nD τ sig (Elt F) Λ₀ .tc) α} :
    iprop((arg1.view.loc (c : Thread nD τ) ↦{qt} ft) ∗ Fam arg5 arg11 arg12 c fs (words arg1 c ft) (entry (i 0).val))
      ⊢ iprop((iprop((arg1.view.loc (c : Thread nD τ) ↦{qt} ft) ∗ Fam arg5 arg11 arg12 c fs (words arg1 c ft) (stAt (qn i 0))) -∗ Wp c T Q)
        -∗ Wp c (if k0_h1 : k0_cond1 i = 1#1 then
            Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 k0_h1) >>= fun _ => T
          else T) Q) := by
  by_cases h1 : k0_cond1 i = 1#1
  · have hz := (cond1 i).mp h1
    rw [hz, show qn i 0 = 0 by unfold qn; omega, show entry 0 = pro 0 from if_pos rfl, ← pro_all]
    iintro HI HK
    iapply (wp_yes c h1)
    iapply (wp_loopB c k0_t1_loop (k0_t1_ok i h1) _ (Inv1 arg1 arg5 arg11 arg12 c fs qt ft)
      (trip1 i arg1 harg1 arg2 harg2 arg3 harg3 arg4 harg4 arg5 harg5 arg6 harg6 arg7 harg7 arg8 harg8 arg9 harg9 arg10 harg10 arg11 harg11 arg12 c fs qt ft HT h1)) $$ [HI]
    · unfold Inv1; iexact HI
    rw [trips1]
    unfold Inv1
    iexact HK
  · have hz : (i 0).val ≠ 0 := fun h => h1 ((cond1 i).mpr h)
    rw [show qn i 0 = 104 * (i 0).val by unfold qn; omega, show entry (i 0).val = stAt (104 * (i 0).val) from if_neg hz]
    iintro HI HK
    iapply (wp_no c h1)
    iapply HK
    iexact HI

set_option maxHeartbeats 4000000 in
/-- The body at grid coordinates `i`. -/
theorem body (HT : ∀ j, (words arg1 c ft j).toNat < 11000) (f6 : Buf (Elt F) (arg6.view.loc (c : Thread nD τ)))
    (f7 : Buf (Elt F) (arg7.view.loc (c : Thread nD τ))) (f8 : Buf (Elt F) (arg8.view.loc (c : Thread nD τ))) :
    iprop(Kept arg1 arg5 arg9 arg10 arg11 arg12 c fs qt ft (i 0).val ∗ Blocks arg2 arg3 arg4 c f2 f3 f4
        ∗ (arg6.view.loc (c : Thread nD τ) ↦{fullShare} f6) ∗ (arg7.view.loc (c : Thread nD τ) ↦{fullShare} f7)
        ∗ (arg8.view.loc (c : Thread nD τ) ↦{fullShare} f8))
      ⊢ Wp c (cc0_ivfpq_tables i arg1 harg1 arg2 harg2 arg3 harg3 arg4 harg4 arg5 harg5 arg6 harg6 arg7 harg7 arg8 harg8 arg9 harg9 arg10 harg10 arg11 harg11 arg12)
        (fun _ => iprop(Kept arg1 arg5 arg9 arg10 arg11 arg12 c fs qt ft ((i 0).val + 1) ∗ Blocks arg2 arg3 arg4 c f2 f3 f4
          ∗ Left i arg1 arg2 arg3 arg4 arg5 arg6 arg7 arg8 arg9 c fs ft f2 f3 f4 f8)) := by
  unfold cc0_ivfpq_tables
  rw [k0_part14_eq_skeleton]
  unfold k0_part14_skel
  rw [k0_part13_eq_skeleton]
  unfold k0_part13_skel
  dsimp only
  unfold Kept Blocks
  iintro ⟨⟨Ht, HF, ⟨%f9, H9⟩, ⟨%f10, Hg⟩, HW⟩, ⟨H2, H3, H4⟩, H6, H7, H8⟩
  iapply (wp_first c)
  iapply (wp_first c)
  iapply (prologue i arg1 harg1 arg2 harg2 arg3 harg3 arg4 harg4 arg5 harg5 arg6 harg6 arg7 harg7 arg8 harg8 arg9 harg9 arg10 harg10 arg11 harg11 arg12 c fs qt ft HT) $$ [Ht HF]
  · isplitl [Ht]; · iexact Ht
    iexact HF
  iintro ⟨Ht, HF⟩
  iapply (wp_loadB c arg2 Finset.univ fullShare f2 (Finset.subset_univ _)) $$ H2
  iintro H2
  iapply (wp_loadB c arg3 Finset.univ fullShare f3 (Finset.subset_univ _)) $$ H3
  iintro H3
  iapply (wp_loadB c arg8 Finset.univ fullShare f8 (Finset.subset_univ _)) $$ H8
  iintro H8
  iapply (wp_storeB c arg8 f8) $$ H8
  iintro H8
  iapply (wp_loadB c arg9 Finset.univ fullShare f9 (Finset.subset_univ _)) $$ H9
  iintro H9
  iapply (wp_storeB c arg9 f9) $$ H9
  iintro H9
  obtain ⟨F9, hF9⟩ : ∃ F9, F9 = scr9 arg2 arg3 arg9 c f2 f3 f9 := ⟨_, rfl⟩
  rw [show arg9.view.writes (Elt F) f9 [⟨Rect.unit (s := S104x640) ![0, 0] S104x640.size inb_S104x640_S104x640_0_0,
    k0_pay47 (arg2.view.readAt (Elt F) (Rect.unit (s := S104x1280) ![0, 0] S104x1280.size inb_S104x1280_S104x1280_0_0).toLoadRect f2)
      (arg3.view.readAt (Elt F) (Rect.unit (s := S1280x640) ![0, 0] S1280x640.size inb_S1280x640_S1280x640_0_0).toLoadRect f3)⟩] = F9 from hF9.symm]
  iapply (wp_loopB c k0_t2_loop k0_t2_ok _ (Inv2 arg4 arg7 arg9 c f4 F9) (trip2 i arg1 harg1 arg2 harg2 arg3 harg3 arg4 harg4 arg5 harg5 arg6 harg6 arg7 harg7 arg8 harg8 arg9 harg9 arg10 harg10 arg11 harg11 arg12 c f4 F9)) $$ [H4 H9 H7]
  · unfold Inv2 Tab
    isplitl [H4]; · iexact H4
    isplitl [H9]; · iexact H9
    iexists f7
    isplitr; · ipureintro; intro row m j h; omega
    iexact H7
  rw [trips2]
  unfold Inv2
  iintro ⟨H4, H9, H7⟩
  iapply (wp_loopB c k0_t3_loop k0_t3_ok _ (Inv3 i arg1 arg5 arg9 arg10 arg11 arg12 c fs qt ft F9) (trip3 i arg1 harg1 arg2 harg2 arg3 harg3 arg4 harg4 arg5 harg5 arg6 harg6 arg7 harg7 arg8 harg8 arg9 harg9 arg10 harg10 arg11 harg11 arg12 c fs qt ft F9 HT)) $$ [Ht HF H9 Hg HW]
  · unfold Inv3
    isplitl [Ht]; · iexact Ht
    isplitl [HF]; · iexact HF
    isplitl [H9]; · iexact H9
    isplitl [Hg]
    · iexists f10
      isplitr; · ipureintro; intro b p l h; omega
      iexact Hg
    iexact HW
  rw [trips3]
  unfold Inv3
  iintro ⟨Ht, HF, H9, Hg, HW⟩
  ihave H6 := (show (arg6.view.loc (c : Thread nD τ) ↦{fullShare} f6) ⊢ Coarse i arg1 arg5 arg6 arg9 c fs ft F9 0 from by
    unfold Coarse
    iintro H6
    iexists f6
    isplitr; · ipureintro; intro p b h; omega
    iexact H6) $$ H6
  ihave Hg := (show iprop(∃ g, ⌜Parts i arg1 arg5 arg9 arg10 c fs ft F9 104 g⌝ ∗ arg10.view.loc (c : Thread nD τ) ↦{fullShare} g)
    ⊢ Done i arg1 arg5 arg9 arg10 c fs ft F9 from .rfl) $$ Hg
  iapply (wp_column i arg1 arg5 arg9 arg10 c fs ft F9 (0 : Fin 5) rfl) $$ Hg
  iintro Hg
  iapply (wp_crow i arg1 arg5 arg6 arg9 c fs ft F9 (0 : Fin 5) 0 1 rfl rfl rfl rfl) $$ H6
  iintro H6
  iapply (wp_column i arg1 arg5 arg9 arg10 c fs ft F9 (1 : Fin 5) rfl) $$ Hg
  iintro Hg
  iapply (wp_done c)
  try dsimp only
  iapply (wp_crow i arg1 arg5 arg6 arg9 c fs ft F9 (1 : Fin 5) 1 2 rfl rfl rfl rfl) $$ H6
  iintro H6
  iapply (wp_column i arg1 arg5 arg9 arg10 c fs ft F9 (2 : Fin 5) rfl) $$ Hg
  iintro Hg
  iapply (wp_crow i arg1 arg5 arg6 arg9 c fs ft F9 (2 : Fin 5) 2 3 rfl rfl rfl rfl) $$ H6
  iintro H6
  iapply (wp_column i arg1 arg5 arg9 arg10 c fs ft F9 (3 : Fin 5) rfl) $$ Hg
  iintro Hg
  iapply (wp_crow i arg1 arg5 arg6 arg9 c fs ft F9 (3 : Fin 5) 3 4 rfl rfl rfl rfl) $$ H6
  iintro H6
  iapply (wp_column i arg1 arg5 arg9 arg10 c fs ft F9 (4 : Fin 5) rfl) $$ Hg
  iintro Hg
  iapply (wp_crow i arg1 arg5 arg6 arg9 c fs ft F9 (4 : Fin 5) 4 5 rfl rfl rfl rfl) $$ H6
  iintro H6
  iapply (wp_done c)
  try dsimp only
  iapply (wp_done c)
  try dsimp only
  rw [show stAt (qn i 104) = entry ((i 0).val + 1) from by
    unfold entry qn
    rw [if_neg (by omega)]
    exact congrArg stAt (by omega)]
  subst hF9
  isplitl [Ht HF H9 Hg HW]
  · isplitl [Ht]; · iexact Ht
    isplitl [HF]; · iexact HF
    isplitl [H9]; · iexists _; iexact H9
    isplitl [Hg]
    · unfold Done
      icases Hg with ⟨%g, -, Hg⟩
      iexists g; iexact Hg
    iexact HW
  isplitl [H2 H3 H4]
  · isplitl [H2]; · iexact H2
    isplitl [H3]; · iexact H3
    iexact H4
  unfold Left
  isplitl [H8]; · iexact H8
  iexists f9
  isplitl [H7]; · iexact H7
  iexact H6

end Body

end Cert.Kernel.Ring

end

end
-- ==== Proof.Blocks.lean ====
/-
  What the body leaves in its three result blocks, as a function of what its operands hold: the block of queries, the
  rotation, the codebook, the centroids and the probe table.
-/
module

public import proofs.«01_k».proof.Proof.Body

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Functions

variable (X : Vec F S104x640 .f32) (Q : Vec F S640x256 .bf16) (C : Vec F S11000x640 .f32) (tw : Fin 13000 → BitVec 32)

/-- Rows `8 t` to `8 t + 7` of a block of rotated queries. -/
def octet (t : ℕ) : Vec F S8x640 .f32 := fun y => X (ix2 (Fin.ofNat 104 (8 * t + (y 0).val)) (y 1))

/-- The first 256 rows of the codebook. -/
def book1 : Vec F S256x256 .bf16 := fun y => Q (ix2 (Fin.ofNat 640 (0 + (y 0).val)) (y 1))
/-- The next 256 rows. -/
def book2 : Vec F S256x256 .bf16 := fun y => Q (ix2 (Fin.ofNat 640 (256 + (y 0).val)) (y 1))
/-- The last 128 rows. -/
def book3 : Vec F S128x256 .bf16 := fun y => Q (ix2 (Fin.ofNat 640 (512 + (y 0).val)) (y 1))

/-- The table entry of the block's query `row`, sub-space `m` and code `j`. -/
def entryOf (row : ℕ) (m : Fin 80) (j : Fin 256) : Elt F .f32 :=
  if m.val < 32 then prod1 (octet X (row / 8)) (book1 Q) (ix2 (Fin.ofNat 256 (32 * (row % 8) + m.val)) j)
  else if m.val < 64 then prod2 (octet X (row / 8)) (book2 Q) (ix2 (Fin.ofNat 256 (32 * (row % 8) + (m.val - 32))) j)
  else prod3 (octet X (row / 8)) (book3 Q) (ix2 (Fin.ofNat 128 (16 * (row % 8) + (m.val - 64))) j)

/-- The block of tables. -/
def tables : Vec F S104x80x256 .f32 := fun y => entryOf X Q (y 0).val (y 1) (y 2)

/-- The 128 partial distances between the block's query `b` and its probe `p`, when the block's first query is `q`. -/
def halves (q : ℕ) (b : Fin 104) : Vec F S1x5x128 .f32 :=
  k0_pay45 (fun x => X (ix2 b (x 1))) (fun x => C (ix2 (rowOf tw (q + b.val) (x 1)) (x 2)))

/-- The block of coarse distances. -/
def coarse (q : ℕ) : Vec F S1x5x104 .f32 := fun y =>
  k0_pay53 (fun z : S104x1x128.Idx => halves X C tw q (z 0) (ix3 0 (y 1) (z 2))) (ix3 0 0 (y 2))

end Functions

section Reads

variable (i : grid0.Coords)
  (arg1 : Memref sig .tc .smem S13000 .i32) (harg1 : arg1.IsWhole)
  (arg2 : Memref sig .tc .vmem S104x1280 .bf16) (harg2 : arg2.IsWhole)
  (arg3 : Memref sig .tc .vmem S1280x640 .bf16) (harg3 : arg3.IsWhole)
  (arg4 : Memref sig .tc .vmem S640x256 .bf16) (harg4 : arg4.IsWhole)
  (arg5 : Memref sig .tc .hbm S11000x640 .f32) (harg5 : arg5.IsWhole)
  (arg6 : Memref sig .tc .vmem S1x5x104 .f32) (harg6 : arg6.IsWhole)
  (arg7 : Memref sig .tc .vmem S104x80x256 .f32) (harg7 : arg7.IsWhole)
  (arg8 : Memref sig .tc .vmem S104x640 .bf16) (harg8 : arg8.IsWhole)
  (arg9 : Memref sig .tc .vmem S104x640 .f32) (harg9 : arg9.IsWhole)
  (arg10 : Memref sig .tc .vmem S104x8x128 .f32) (harg10 : arg10.IsWhole)
  (arg11 : Memref sig .tc .vmem S16x8x640 .f32) (harg11 : arg11.IsWhole)
  (arg12 : DmaSems sig S16)
variable (c : Dev nD) (fs : Buf (Elt F) (arg5.view.loc (c : Thread nD τ))) (qt : PosShare TreeShare)
  (ft : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f9 : Buf (Elt F) (arg9.view.loc (c : Thread nD τ)))

/-- A load of consecutive rows reads them. -/
theorem rows_read {sp : Space} {R C n : ℕ} {e : EltTy} (m : Memref sig .tc sp ⟨2, ![R, C]⟩ e) (f : Buf (Elt F) (m.view.loc (c : Thread nD τ))) (o : ℕ)
    (h : ∀ a, (![o, 0] : Fin 2 → ℕ) a + (![n, C] : Fin 2 → ℕ) a ≤ (⟨2, ![R, C]⟩ : Shape).size a)
    (y : (⟨2, ![n, C]⟩ : Shape).Idx) (r : Fin R) (hr : r.val = o + (y 0).val) :
    m.view.readAt (Elt F) (Rect.unit (s := ⟨2, ![R, C]⟩) ![o, 0] ![n, C] h).toLoadRect f y = m.view.read (Elt F) f (ix2 r (y 1)) := by
  rw [View.readAt_apply]
  refine congrArg _ (funext fun a => Fin.ext ?_)
  refine (ValueKit.rect_emb_unit_val _ _ _ _ a).trans ?_
  fin_cases a
  · exact hr.symm
  · show 0 + (y 1).val = (y 1).val; omega

theorem blkX_read : blkX arg2 c f2 = arg2.view.read (Elt F) f2 := by
  funext y
  refine (rows_read c arg2 f2 0 _ y (y 0) (Nat.zero_add _).symm).trans (congrArg _ (ValueIdx.eq_ix2 y).symm)

theorem blkR_read : blkR arg3 c f3 = arg3.view.read (Elt F) f3 := by
  funext y
  refine (rows_read c arg3 f3 0 _ y (y 0) (Nat.zero_add _).symm).trans (congrArg _ (ValueIdx.eq_ix2 y).symm)

theorem cb1_read : cb1 arg4 c f4 = book1 (arg4.view.read (Elt F) f4) := by
  funext y
  have h : (y 0).val < 256 := (y 0).isLt
  exact rows_read c arg4 f4 0 _ y _ (by show (0 + (y 0).val) % 640 = _; omega)

theorem cb2_read : cb2 arg4 c f4 = book2 (arg4.view.read (Elt F) f4) := by
  funext y
  have h : (y 0).val < 256 := (y 0).isLt
  exact rows_read c arg4 f4 256 _ y _ (by show (256 + (y 0).val) % 640 = _; omega)

theorem cb3_read : cb3 arg4 c f4 = book3 (arg4.view.read (Elt F) f4) := by
  funext y
  have h : (y 0).val < 128 := (y 0).isLt
  exact rows_read c arg4 f4 512 _ y _ (by show (512 + (y 0).val) % 640 = _; omega)

/-- A store over a whole matrix leaves what it stored. -/
theorem full_read {sp : Space} {R C : ℕ} {e : EltTy} (m : Memref sig .tc sp ⟨2, ![R, C]⟩ e) (f : Buf (Elt F) (m.view.loc (c : Thread nD τ)))
    (h : ∀ a, (![0, 0] : Fin 2 → ℕ) a + (![R, C] : Fin 2 → ℕ) a ≤ (⟨2, ![R, C]⟩ : Shape).size a) (w : (⟨2, ![R, C]⟩ : Shape).Idx → Elt F e) :
    m.view.read (Elt F) (m.view.writes (Elt F) f [⟨Rect.unit (s := ⟨2, ![R, C]⟩) ![0, 0] ![R, C] h, w⟩]) = w := by
  funext y
  refine View.read_writes_cons_unit_of_mem m.view f h w [] y y rfl fun a => ?_
  fin_cases a
  · show (y 0).val = 0 + (y 0).val; omega
  · show (y 1).val = 0 + (y 1).val; omega

theorem scr9_read (f : Buf (Elt F) (arg9.view.loc (c : Thread nD τ))) :
    arg9.view.read (Elt F) (scr9 arg2 arg3 arg9 c f2 f3 f) = k0_pay47 (arg2.view.read (Elt F) f2) (arg3.view.read (Elt F) f3) := by
  unfold scr9
  rw [blkX_read, blkR_read]
  exact full_read c arg9 f _ _

theorem lutOf_read (row : ℕ) (m : Fin 80) (j : Fin 256) :
    lutOf arg4 arg9 c f4 f9 row m j = entryOf (arg9.view.read (Elt F) f9) (arg4.view.read (Elt F) f4) row m j := by
  unfold lutOf entryOf
  rw [cb1_read, cb2_read, cb3_read]
  rfl

/-- What the body leaves, said of the operands' contents. -/
theorem left_owns (h6 : arg6.IsWhole) (h7 : arg7.IsWhole) (h8 : arg8.IsWhole) (f8 : Buf (Elt F) (arg8.view.loc (c : Thread nD τ))) :
    Left i arg1 arg2 arg3 arg4 arg5 arg6 arg7 arg8 arg9 c fs ft f2 f3 f4 f8
      ⊢ iprop(owns (c : Thread nD τ) arg6 fullShare (coarse (k0_pay47 (arg2.view.read (Elt F) f2) (arg3.view.read (Elt F) f3))
            (arg5.view.read (Elt F) fs) (words arg1 c ft) (104 * (i 0).val))
        ∗ owns (c : Thread nD τ) arg7 fullShare (tables (k0_pay47 (arg2.view.read (Elt F) f2) (arg3.view.read (Elt F) f3)) (arg4.view.read (Elt F) f4))
        ∗ owns (c : Thread nD τ) arg8 fullShare (k0_pay46 (arg2.view.read (Elt F) f2) (arg3.view.read (Elt F) f3))) := by
  unfold Left Tab Coarse owns
  rw [h6.set_eq_univ, h7.set_eq_univ, h8.set_eq_univ]
  iintro ⟨H8, ⟨%f, ⟨%g7, %hg7, H7⟩, ⟨%g6, %hg6, H6⟩⟩⟩
  isplitl [H6]
  · iexists g6
    isplitr; swap; · iexact H6
    ipureintro
    funext y
    obtain ⟨u, p, b, rfl⟩ : ∃ (u : Fin 1) (p : Fin 5) (b : Fin 104), y = ix3 u p b := ⟨y 0, y 1, y 2, ValueIdx.eq_ix3 y⟩
    obtain rfl : u = 0 := Subsingleton.elim _ _
    refine (hg6 p b p.isLt).trans ?_
    unfold coarse partCol part rowX rowsC halves qn
    rw [scr9_read]
  isplitl [H7]
  · iexists g7
    isplitr; swap; · iexact H7
    ipureintro
    funext y
    obtain ⟨row, m, j, rfl⟩ : ∃ (row : Fin 104) (m : Fin 80) (j : Fin 256), y = ix3 row m j := ⟨y 0, y 1, y 2, ValueIdx.eq_ix3 y⟩
    refine (hg7 row m j (.inl (by omega))).trans ?_
    rw [lutOf_read, scr9_read]
    rfl
  · iexists _
    isplitr; swap; · iexact H8
    ipureintro
    rw [blkX_read, blkR_read]
    exact full_read c arg8 f8 _ _

/-- THE BODY at grid coordinates `i`, said of its blocks' contents. -/
theorem point (HT : ∀ j, (words arg1 c ft j).toNat < 11000)
    (x : Vec F S104x1280 .bf16) (o : Vec F S1280x640 .bf16) (q : Vec F S640x256 .bf16) :
    iprop(Kept arg1 arg5 arg9 arg10 arg11 arg12 c fs qt ft (i 0).val
        ∗ owns (c : Thread nD τ) arg2 fullShare x ∗ owns (c : Thread nD τ) arg3 fullShare o ∗ owns (c : Thread nD τ) arg4 fullShare q
        ∗ (∃ d, owns (c : Thread nD τ) arg6 fullShare d) ∗ (∃ d, owns (c : Thread nD τ) arg7 fullShare d) ∗ (∃ d, owns (c : Thread nD τ) arg8 fullShare d))
      ⊢ Wp c (cc0_ivfpq_tables i arg1 harg1 arg2 harg2 arg3 harg3 arg4 harg4 arg5 harg5 arg6 harg6 arg7 harg7 arg8 harg8 arg9 harg9 arg10 harg10 arg11 harg11 arg12)
        (fun _ => iprop(Kept arg1 arg5 arg9 arg10 arg11 arg12 c fs qt ft ((i 0).val + 1)
          ∗ owns (c : Thread nD τ) arg2 fullShare x ∗ owns (c : Thread nD τ) arg3 fullShare o ∗ owns (c : Thread nD τ) arg4 fullShare q
          ∗ owns (c : Thread nD τ) arg6 fullShare (coarse (k0_pay47 x o) (arg5.view.read (Elt F) fs) (words arg1 c ft) (104 * (i 0).val))
          ∗ owns (c : Thread nD τ) arg7 fullShare (tables (k0_pay47 x o) q)
          ∗ owns (c : Thread nD τ) arg8 fullShare (k0_pay46 x o))) := by
  have hb := fun f2 f3 f4 f6 f7 f8 => (body i arg1 harg1 arg2 harg2 arg3 harg3 arg4 harg4 arg5 harg5 arg6 harg6 arg7 harg7 arg8 harg8 arg9 harg9 arg10 harg10 arg11 harg11 arg12 c fs qt ft f2 f3 f4 HT f6 f7 f8).trans
    (wp_mono frame (wpE (defs₀ (F := F)) Variants.none (c : Thread nD τ) none) Set.univ
      (fun _ => sep_mono .rfl (sep_mono .rfl (left_owns i arg1 arg2 arg3 arg4 arg5 arg6 arg7 arg8 arg9 c fs ft f2 f3 f4 harg6 harg7 harg8 f8))))
  unfold owns at hb ⊢
  rw [harg2.set_eq_univ, harg3.set_eq_univ, harg4.set_eq_univ, harg6.set_eq_univ, harg7.set_eq_univ, harg8.set_eq_univ]
  simp only [harg6.set_eq_univ, harg7.set_eq_univ, harg8.set_eq_univ] at hb
  iintro ⟨HK, ⟨%f2, %e2, H2⟩, ⟨%f3, %e3, H3⟩, ⟨%f4, %e4, H4⟩, ⟨%d6, %f6, -, H6⟩, ⟨%d7, %f7, -, H7⟩, ⟨%d8, %f8, -, H8⟩⟩
  subst e2 e3 e4
  iapply (wp_wand frame (wpE (defs₀ (F := F)) Variants.none (c : Thread nD τ) none) Set.univ) $$ [HK H2 H3 H4 H6 H7 H8]
  · iapply (hb f2 f3 f4 f6 f7 f8)
    isplitl [HK]; · iexact HK
    isplitl [H2 H3 H4]
    · unfold Blocks
      isplitl [H2]; · iexact H2
      isplitl [H3]; · iexact H3
      iexact H4
    isplitl [H6]; · iexact H6
    isplitl [H7]; · iexact H7
    iexact H8
  iintro %_
  unfold Blocks
  iintro ⟨HK, ⟨H2, H3, H4⟩, H6, H7, H8⟩
  isplitl [HK]; · iexact HK
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]; · iexact H6
  isplitl [H7]; · iexact H7
  iexact H8

end Reads

end Cert.Kernel.Ring

end

end
-- ==== Proof.Launch.lean ====
/-
  The kernel's run: the ring at rest is what the launch hands over and takes back, every grid point is the body's
  triple, and the results end at the blocks the body leaves.
-/
module

public import proofs.«01_k».proof.Proof.Blocks
public import Idealize.ShloMosaic.Lib.Pipeline.FrameBody
public import Idealize.ShloMosaic.Lib.Pipeline.Frame
public import Idealize.ShloMosaic.Lib.Ring
public import Idealize.ShloMosaic.Lib.Tactic

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

open Idealize.ShloMosaic.Pipeline (Dat Cfg Window BodyObligation)

section Rest

variable (m5 : Memref sig .tc .hbm S11000x640 .f32) (m11 : Memref sig .tc .vmem S16x8x640 .f32) (m12 : DmaSems sig S16)
variable (c : Dev nD) (fs : Buf (Elt F) (m5.view.loc (c : Thread nD τ))) (tw : Fin 13000 → BitVec 32)

/-- The ring at rest, part by part. -/
theorem fam_rest : Fam m5 m11 m12 c fs tw (fun _ => none)
    = (iprop(bigSep Finset.univ (fun s => iprop(∃ f, m11.view.loc (c : Thread nD τ) ↦[slab m11 s]{fullShare} f))
      ∗ bigSep Finset.univ (fun s => m5.view.loc (c : Thread nD τ) ↦{tok s} fs)
      ∗ bigSep Finset.univ (fun s => semVal ((c : Thread nD τ), .dma (cell m12 s)) 0)) : sProp 𝕄) := by
  have e1 := bigSep_sep (M := 𝕄) Finset.univ (fun s : Fin 16 => iprop(∃ f, m11.view.loc (c : Thread nD τ) ↦[slab m11 s]{fullShare} f))
    (fun s => iprop((m5.view.loc (c : Thread nD τ) ↦{tok s} fs) ∗ semVal ((c : Thread nD τ), .dma (cell m12 s)) 0))
  have e2 := bigSep_sep (M := 𝕄) Finset.univ (fun s : Fin 16 => m5.view.loc (c : Thread nD τ) ↦{tok s} fs)
    (fun s => semVal ((c : Thread nD τ), .dma (cell m12 s)) 0)
  exact e1.trans (congrArg (BI.sep _) e2)

/-- From the whole scratch ring, the whole centroids and the sixteen semaphores at zero, the ring at rest. -/
theorem rest_intro (h11 : m11.IsWhole) :
    iprop((∃ f, m11.view.loc (c : Thread nD τ) ↦{fullShare} f) ∗ (m5.view.loc (c : Thread nD τ) ↦{fullShare} fs)
      ∗ bigSep Finset.univ (fun s => semVal ((c : Thread nD τ), .dma (cell m12 s)) 0))
    ⊢ (iprop(Fam m5 m11 m12 c fs tw (fun _ => none) ∗ (m5.view.loc (c : Thread nD τ) ↦{shareDrop fullShare 16} fs)) : sProp 𝕄) := by
  rw [fam_rest]
  have hx : ∀ (f : Buf (Elt F) (m11.view.loc (c : Thread nD τ))) (s : Fin 16), (m11.view.loc (c : Thread nD τ) ↦[slab m11 s]{fullShare} f : sProp 𝕄)
      ⊢ iprop(∃ f, m11.view.loc (c : Thread nD τ) ↦[slab m11 s]{fullShare} f) := fun f s => by
    iintro H; iexists f; iexact H
  iintro ⟨⟨%f, Hf⟩, H5, Hs⟩
  ihave H5' := (pointsTo_toks_split fullShare 16) $$ H5
  icases H5' with ⟨H5, Ht⟩
  ihave Hf' := (Entails.of_eq (Idealize.ShloMosaic.Ring.pointsTo_sub_blocks (ℓ := m11.view.loc (c : Thread nD τ)) (slab m11) (slab_disjoint m11) Finset.univ
    ((slab_union m11).trans h11.set_eq_univ) f)) $$ Hf
  isplitr [H5]; swap; · iexact H5
  isplitl [Hf']
  · iapply (show (bigSep Finset.univ (fun s : Fin 16 => m11.view.loc (c : Thread nD τ) ↦[slab m11 s]{fullShare} f) : sProp 𝕄)
        ⊢ bigSep Finset.univ (fun s => iprop(∃ f, m11.view.loc (c : Thread nD τ) ↦[slab m11 s]{fullShare} f)) from
      bigSep_mono (fun s _ => hx f s))
    iexact Hf'
  isplitl [Ht]; · iexact Ht
  iexact Hs

/-- And back. -/
theorem rest_elim (h11 : m11.IsWhole) (f₀ : Buf (Elt F) (m11.view.loc (c : Thread nD τ))) :
    (iprop(Fam m5 m11 m12 c fs tw (fun _ => none) ∗ (m5.view.loc (c : Thread nD τ) ↦{shareDrop fullShare 16} fs)) : sProp 𝕄)
    ⊢ iprop((∃ f, m11.view.loc (c : Thread nD τ) ↦{fullShare} f) ∗ (m5.view.loc (c : Thread nD τ) ↦{fullShare} fs)
      ∗ bigSep Finset.univ (fun s => semVal ((c : Thread nD τ), .dma (cell m12 s)) 0)) := by
  rw [fam_rest]
  iintro ⟨⟨Hf, Ht, Hs⟩, H5⟩
  isplitl [Hf]
  · iapply (Idealize.ShloMosaic.Ring.pointsTo_sub_blocks_join_exists (ℓ := m11.view.loc (c : Thread nD τ)) (slab m11) (slab_disjoint m11) Finset.univ
      ((slab_union m11).trans h11.set_eq_univ) f₀)
    iexact Hf
  isplitr [Hs]; swap; · iexact Hs
  iapply (pointsTo_toks_join fullShare 16)
  isplitl [H5]; · iexact H5
  iexact Ht

end Rest

section Run

variable (m : (ℓ : Loc nD τ sig) → Buf (Elt F) ℓ) (ρ : Dev nD → PrngReg)

/-- The buffers' contents once @main's host operations have run. -/
abbrev V (c : Dev nD) (b : Ref sig .tc) : Buf (Elt F) ((c.tc : Thread nD τ).loc b) := StableHlo.after hostOps0 (fun b => m (c, b)) b

abbrev tabM : Memref sig .tc .smem S13000 .i32 := Memref.whole main_v2
abbrev cenM : Memref sig .tc .hbm S11000x640 .f32 := Memref.whole main_arg2
abbrev rotM : Memref sig .tc .vmem S104x640 .f32 := Memref.whole cc0_scratch0
abbrev prtM : Memref sig .tc .vmem S104x8x128 .f32 := Memref.whole cc0_scratch1
abbrev bufM : Memref sig .tc .vmem S16x8x640 .f32 := Memref.whole cc0_scratch2

/-- The probe table's words as the kernel finds them. -/
abbrev tw (c : Dev nD) : Fin 13000 → BitVec 32 := words tabM c (V m c main_v2)

/-- The tables' contents the pipeline runs at. -/
def adm : (pcfg0 (F := F)).Adm := ⟨fun | 0 => V m 0 main_v2 | ⟨_ + 1, h⟩ => absurd h (Nat.not_lt.2 (Nat.le_add_left _ _)), trivial⟩

abbrev cfgm : Cfg sig Λ₀ := cfg0 (adm m)

/-- The query block of grid point `t`. -/
def xBlk (c : Dev nD) (t : Fin (cfgm m).N) : Vec F S104x1280 .bf16 := (((cfgm m).win 0).blk t).view.read (Elt F) (V m c main_arg0)
/-- The rotation. -/
def rBlk (c : Dev nD) (t : Fin (cfgm m).N) : Vec F S1280x640 .bf16 := (((cfgm m).win 1).blk t).view.read (Elt F) (V m c main_arg1)
/-- The codebook. -/
def qBlk (c : Dev nD) (t : Fin (cfgm m).N) : Vec F S640x256 .bf16 := (((cfgm m).win 2).blk t).view.read (Elt F) (V m c main_v1)

/-- The coarse distances the body leaves at grid point `t`. -/
def cOut (c : Dev nD) (t : Fin (cfgm m).N) : Vec F S1x5x104 .f32 :=
  coarse (k0_pay47 (xBlk m c t) (rBlk m c t)) (cenM.view.read (Elt F) (V m c main_arg2)) (tw m c) (104 * t.val)
/-- The tables. -/
def tOut (c : Dev nD) (t : Fin (cfgm m).N) : Vec F S104x80x256 .f32 := tables (k0_pay47 (xBlk m c t) (rBlk m c t)) (qBlk m c t)
/-- The rotated queries. -/
def rOut (c : Dev nD) (t : Fin (cfgm m).N) : Vec F S104x640 .bf16 := k0_pay46 (xBlk m c t) (rBlk m c t)

/-- What holds before grid point `n` apart from the windows: half of the probe table, the ring and its transfers, the
    scratch buffers, the generator's register and what is left of the centroids. -/
def Inv (c : Dev nD) (n : ℕ) : sProp 𝕄 :=
  iprop((tabM.view.loc (c : Thread nD τ) ↦{fullShare.right} V m c main_v2)
    ∗ Fam cenM bufM cc0_scratch3 c (V m c main_arg2) (tw m c) (entry n)
    ∗ (∃ f, rotM.view.loc (c : Thread nD τ) ↦{fullShare} f) ∗ (∃ f, prtM.view.loc (c : Thread nD τ) ↦{fullShare} f)
    ∗ (∃ r, prngReg c r) ∗ (cenM.view.loc (c : Thread nD τ) ↦{shareDrop fullShare 16} V m c main_arg2))

/-- The pipeline's proof data. -/
def dats (_ : Fin 1) (c : Dev nD) : Dat τ (Elt F) Unit ℕ (Pipeline.UD sig nD τ) ℕ (cfgm m) c where
  A w := V m c (Pipeline.arrRef spec0 w)
  after w t := match w with
    | ⟨0, _⟩ => xBlk m c t
    | ⟨1, _⟩ => rBlk m c t
    | ⟨2, _⟩ => qBlk m c t
    | ⟨3, _⟩ => cOut m c t
    | ⟨4, _⟩ => tOut m c t
    | ⟨5, _⟩ => rOut m c t
  Φ n := Inv m c n.val
  q _ := fullShare
  owed _ := 0

theorem A_eq (c : Dev nD) (w : Fin (cfgm m).W) : (dats m 0 c).A w = V m c (Pipeline.arrRef spec0 w) := by dsimp only [dats]

theorem after0 (c : Dev nD) (t : Fin (cfgm m).N) : (dats m 0 c).after 0 t = xBlk m c t := rfl
theorem after1 (c : Dev nD) (t : Fin (cfgm m).N) : (dats m 0 c).after 1 t = rBlk m c t := rfl
theorem after2 (c : Dev nD) (t : Fin (cfgm m).N) : (dats m 0 c).after 2 t = qBlk m c t := rfl
theorem after3 (c : Dev nD) (t : Fin (cfgm m).N) : (dats m 0 c).after 3 t = cOut m c t := rfl
theorem after4 (c : Dev nD) (t : Fin (cfgm m).N) : (dats m 0 c).after 4 t = tOut m c t := rfl
theorem after5 (c : Dev nD) (t : Fin (cfgm m).N) : (dats m 0 c).after 5 t = rOut m c t := rfl

theorem before0 (c : Dev nD) (t : Fin (cfgm m).N) (d) : (dats m 0 c).before 0 t d = xBlk m c t :=
  ((dats m 0 c).before_in_eq_fetched 0 rfl (fun _ => rfl) (fun _ _ _ => rfl) (fun t => by rw [after0]; rfl) t d).trans rfl
theorem before1 (c : Dev nD) (t : Fin (cfgm m).N) (d) : (dats m 0 c).before 1 t d = rBlk m c t :=
  ((dats m 0 c).before_in_eq_fetched 1 rfl (fun _ => rfl) (fun _ _ _ => rfl) (fun t => by rw [after1]; rfl) t d).trans rfl
theorem before2 (c : Dev nD) (t : Fin (cfgm m).N) (d) : (dats m 0 c).before 2 t d = qBlk m c t :=
  ((dats m 0 c).before_in_eq_fetched 2 rfl (fun _ => rfl) (fun _ _ _ => rfl) (fun t => by rw [after2]; rfl) t d).trans rfl

abbrev s0 (t : Fin (cfgm m).N) : Memref sig .tc .vmem S104x1280 .bf16 := spec0_0.stage ((cfgm m).slots t 0)
abbrev s1 (t : Fin (cfgm m).N) : Memref sig .tc .vmem S1280x640 .bf16 := spec0_1.stage ((cfgm m).slots t 1)
abbrev s2 (t : Fin (cfgm m).N) : Memref sig .tc .vmem S640x256 .bf16 := spec0_2.stage ((cfgm m).slots t 2)
abbrev s3 (t : Fin (cfgm m).N) : Memref sig .tc .vmem S1x5x104 .f32 := spec0_3.stage ((cfgm m).slots t 3)
abbrev s4 (t : Fin (cfgm m).N) : Memref sig .tc .vmem S104x80x256 .f32 := spec0_4.stage ((cfgm m).slots t 4)
abbrev s5 (t : Fin (cfgm m).N) : Memref sig .tc .vmem S104x640 .bf16 := spec0_5.stage ((cfgm m).slots t 5)

/-- The body at grid point `t`. -/
def bodyAt (t : Fin (cfgm m).N) : Prog (TpuEff nD τ sig (Elt F) Λ₀ .tc) PUnit :=
  cc0_ivfpq_tables (grid0.coords t) tabM (Memref.isWhole_whole _) (s0 m t) (hstage0_0 (((cfgm m).slots t 0).cast nbuf0_0))
    (s1 m t) (hstage0_1 (((cfgm m).slots t 1).cast nbuf0_1)) (s2 m t) (hstage0_2 (((cfgm m).slots t 2).cast nbuf0_2))
    cenM (Memref.isWhole_whole _) (s3 m t) (hstage0_3 (((cfgm m).slots t 3).cast nbuf0_3))
    (s4 m t) (hstage0_4 (((cfgm m).slots t 4).cast nbuf0_4)) (s5 m t) (hstage0_5 (((cfgm m).slots t 5).cast nbuf0_5))
    rotM (Memref.isWhole_whole _) prtM (Memref.isWhole_whole _) bufM (Memref.isWhole_whole _) cc0_scratch3

theorem defs₀_row (t : Fin (cfgm m).N) : defs₀ (F := F) .tc (cfgm m).body ((cfgm m).bodyArgs t ((cfgm m).slots t)) = bodyAt m t := by
  unfold defs₀; rw [Defs.onTc_tc]; rfl

/-- Grid point `t` has coordinate `t`. -/
theorem coord_eq (t : Fin grid0.N) : (grid0.coords t 0).val = t.val := by
  revert t; decide

def bodyPre (c : Dev nD) (t : Fin (cfgm m).N) : sProp 𝕄 :=
  iprop((dats m 0 c).Φ t.castSucc ∗ (dats m 0 c).owesAt () t.castSucc
    ∗ (∃ d, owns (c : Thread nD τ) (s0 m t) fullShare ((dats m 0 c).before 0 t d))
    ∗ (∃ d, owns (c : Thread nD τ) (s1 m t) fullShare ((dats m 0 c).before 1 t d))
    ∗ (∃ d, owns (c : Thread nD τ) (s2 m t) fullShare ((dats m 0 c).before 2 t d))
    ∗ (∃ d, owns (c : Thread nD τ) (s3 m t) fullShare ((dats m 0 c).before 3 t d))
    ∗ (∃ d, owns (c : Thread nD τ) (s4 m t) fullShare ((dats m 0 c).before 4 t d))
    ∗ (∃ d, owns (c : Thread nD τ) (s5 m t) fullShare ((dats m 0 c).before 5 t d)))
def bodyPost (c : Dev nD) (t : Fin (cfgm m).N) : sProp 𝕄 :=
  iprop((dats m 0 c).Φ t.succ ∗ (dats m 0 c).owesAt () t.succ
    ∗ owns (c : Thread nD τ) (s0 m t) fullShare ((dats m 0 c).after 0 t)
    ∗ owns (c : Thread nD τ) (s1 m t) fullShare ((dats m 0 c).after 1 t)
    ∗ owns (c : Thread nD τ) (s2 m t) fullShare ((dats m 0 c).after 2 t)
    ∗ owns (c : Thread nD τ) (s3 m t) fullShare ((dats m 0 c).after 3 t)
    ∗ owns (c : Thread nD τ) (s4 m t) fullShare ((dats m 0 c).after 4 t)
    ∗ owns (c : Thread nD τ) (s5 m t) fullShare ((dats m 0 c).after 5 t))

/-- The probe ids are rows of the centroids. -/
def InRange : Prop := ∀ c j, (tw m c j).toNat < 11000

variable (HT : InRange m)
include HT

theorem sound_body (c : Dev nD) (t : Fin (cfgm m).N) :
    bodyPre m c t ⊢ wp frame (wpE (defs₀ (F := F)) Variants.none c none) Set.univ (bodyAt m t) (fun _ => bodyPost m c t) := by
  have hp := point (grid0.coords t) tabM (Memref.isWhole_whole _) (s0 m t) (hstage0_0 (((cfgm m).slots t 0).cast nbuf0_0))
    (s1 m t) (hstage0_1 (((cfgm m).slots t 1).cast nbuf0_1)) (s2 m t) (hstage0_2 (((cfgm m).slots t 2).cast nbuf0_2))
    cenM (Memref.isWhole_whole _) (s3 m t) (hstage0_3 (((cfgm m).slots t 3).cast nbuf0_3))
    (s4 m t) (hstage0_4 (((cfgm m).slots t 4).cast nbuf0_4)) (s5 m t) (hstage0_5 (((cfgm m).slots t 5).cast nbuf0_5))
    rotM (Memref.isWhole_whole _) prtM (Memref.isWhole_whole _) bufM (Memref.isWhole_whole _) cc0_scratch3
    c (V m c main_arg2) fullShare.right (V m c main_v2) (HT c) (xBlk m c t) (rBlk m c t) (qBlk m c t)
  rw [coord_eq] at hp
  unfold bodyPre bodyPost bodyAt
  rw [after0, after1, after2, after3, after4, after5]
  simp only [before0, before1, before2]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  iintro ⟨⟨Ht, HF, H9, H10, Hg, Hd⟩, ⟨%W, -, HW⟩, ⟨%d0, H0⟩, ⟨%d1, H1⟩, ⟨%d2, H2⟩, ⟨%d3, H3⟩, ⟨%d4, H4⟩, ⟨%d5, H5⟩⟩
  iapply (wp_wand frame (wpE (defs₀ (F := F)) Variants.none (c : Thread nD τ) none) Set.univ) $$ [Ht HF H9 H10 HW H0 H1 H2 H3 H4 H5]
  · iapply hp
    isplitl [Ht HF H9 H10 HW]
    · unfold Kept
      isplitl [Ht]; · iexact Ht
      isplitl [HF]; · iexact HF
      isplitl [H9]; · iexact H9
      isplitl [H10]; · iexact H10
      unfold Owes; iexists W; iexact HW
    isplitl [H0]; · iexact H0
    isplitl [H1]; · iexact H1
    isplitl [H2]; · iexact H2
    isplitl [H3]; · iexists _; iexact H3
    isplitl [H4]; · iexists _; iexact H4
    iexists _; iexact H5
  iintro %_
  unfold Kept Owes
  iintro ⟨⟨Ht, HF, H9, H10, ⟨%W', HW'⟩⟩, H0, H1, H2, H3, H4, H5⟩
  isplitl [Ht HF H9 H10 Hg Hd]
  · isplitl [Ht]; · iexact Ht
    isplitl [HF]; · iexact HF
    isplitl [H9]; · iexact H9
    isplitl [H10]; · iexact H10
    isplitl [Hg]; · iexact Hg
    iexact Hd
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0, defs₀_row]
  exact triple_restated (sound_body m HT c t) rfl .rfl fun _ => .rfl

omit HT

/-- The ring's sixteen semaphores. -/
abbrev osem : Fin 16 → SemLoc sig := fun s => .dma (cell cc0_scratch3 s)

theorem ownSemFacts : Pipeline.OwnSemFacts spec0 osem := by decide

/-- The buffer the body's own transfers read: the centroids. -/
def H0 : Finset (Ref sig .tc) := {main_arg2}

theorem H0_sub : H0 ⊆ Pipeline.restRefsP sig pre0 spec0 := by decide

theorem held_eq (c : Dev nD) : (bigSep H0 (fun b => ((c.tc : Thread nD τ).loc b) ↦{fullShare} V m c b) : sProp 𝕄)
    = (cenM.view.loc (c : Thread nD τ) ↦{fullShare} V m c main_arg2) := by
  unfold H0; rw [bigSep_singleton]

theorem table_eq (c : Dev nD) : (Pipeline.ΦT pre0 (adm m).1 c : sProp 𝕄)
    = (tabM.view.loc (c : Thread nD τ) ↦{fullShare.right} V m c main_v2) := by
  obtain rfl : c = 0 := Subsingleton.elim _ _
  unfold Pipeline.ΦT Pipeline.prefHeld
  rw [bigSep_univ_eq_bigSepL [(0 : Fin 1)] (by decide) (by decide)]
  rfl

theorem own_eq (c : Dev nD) : (Pipeline.ownSems0 (Ix := Unit) (Name := ℕ) (U := Pipeline.UD sig nD τ) (Lvl := ℕ) (Val := Elt F) (τ := τ) osem c : sProp 𝕄)
    = bigSep Finset.univ (fun s => semVal ((c : Thread nD τ), .dma (cell cc0_scratch3 s)) 0) := rfl

theorem inv_in (c : Dev nD) : iprop(Pipeline.ΦD osem spec0 H0 (V m) c ∗ Pipeline.ΦT pre0 (adm m).1 c) ⊢ Inv m c 0 := by
  rw [Pipeline.ΦD_eq, held_eq, own_eq, table_eq, scopedRest0_eq]
  unfold Inv
  rw [show entry 0 = fun _ => none from (if_pos rfl).trans pro_zero]
  iintro ⟨⟨⟨H9, H10, H11⟩, Hg, Hs, H5⟩, Ht⟩
  ihave Hr := (rest_intro cenM bufM cc0_scratch3 c (V m c main_arg2) (tw m c) (Memref.isWhole_whole _)) $$ [H11 H5 Hs]
  · isplitl [H11]; · iexact H11
    isplitl [H5]; · iexact H5
    iexact Hs
  icases Hr with ⟨HF, Hd⟩
  isplitl [Ht]; · iexact Ht
  isplitl [HF]; · iexact HF
  isplitl [H9]; · iexact H9
  isplitl [H10]; · iexact H10
  isplitl [Hg]; · iexact Hg
  iexact Hd

theorem inv_out (c : Dev nD) : Inv m c 25 ⊢ Pipeline.ΦD osem spec0 H0 (V m) c := by
  rw [Pipeline.ΦD_eq, held_eq, own_eq, scopedRest0_eq]
  unfold Inv
  rw [show entry 25 = fun _ => none from (if_neg (by decide)).trans stAt_end]
  iintro ⟨Ht, HF, H9, H10, Hg, Hd⟩
  ihave Hr := (rest_elim cenM bufM cc0_scratch3 c (V m c main_arg2) (tw m c) (Memref.isWhole_whole _) (fun _ => default)) $$ [HF Hd]
  · isplitl [HF]; · iexact HF
    iexact Hd
  icases Hr with ⟨H11, H5, Hs⟩
  isplitl [H9 H10 H11]
  · isplitl [H9]; · iexact H9
    isplitl [H10]; · iexact H10
    iexact H11
  isplitl [Hg]; · iexact Hg
  isplitl [Hs]; · iexact Hs
  iexact H5

include HT

set_option backward.isDefEq.respectTransparency.types false in
/-- THE RUN: the program terminates without fault, the results hold what the body left block by block, every other
    buffer what it held when the kernel was entered, and the semaphores are at zero. -/
theorem run_main : θ_run defs (onTc (τ := τ) (main (F := F))) ⟨m, fun _ => 0, ρ⟩
    (fun r => Pipeline.FramePost (Pipeline.pin (pcfgs (F := F)) fun _ => adm m) (dats m) 0 (V m) r ∧ r.2.sem = fun _ => 0) :=
  Pipeline.θ_run_frameP_dma (Q' := _) pcfgs (fun _ => adm m) (dats m) (0 : Fin 1) launch0 osem defs₀ Variants.none ownSemFacts H0 H0_sub m ρ main
    (hbody := fun c => (body_obligation m HT c).loose) (hshare := fun c => (dats m 0 c).share_full fun _ => rfl)
    (howed := fun _ _ => rfl) (V := V m)
    (hmain := Pipeline.hmainP_prefix pcfgs 0 defs₀ Variants.none m main hostOps0 hostOps0_sub ⟨rfl, rfl, rfl⟩ main_chain) (hA := A_eq m)
    (hpf := fun c k => by
      obtain rfl : c = 0 := Subsingleton.elim _ _
      obtain rfl : k = 0 := Subsingleton.elim _ _
      rfl)
    (hin := inv_in m) (hout := inv_out m)

end Run

end Cert.Kernel.Ring

end

end
-- ==== Proof.Frame.lean ====
/-
  The kernel's arguments end as they were: the probe numbers the kernel reads are those of its argument, in range under
  the precondition, and no operation writes an argument.
-/
module

public import proofs.«01_k».proof.Proof.Launch
public import proofs.«01_k».proof.Proof.Gen.Pre_ids_in_range
public import Idealize.ShloMosaic.Lib.ReduceAll
public import Idealize.ShloMosaic.Lib.Pipeline.Value
public import Idealize.ShloMosaic.Lib.StableHlo.Predicate
public import Idealize.ShloMosaic.Lib.StableHlo.RunRead

@[expose] public section

noncomputable section

namespace Cert.Kernel.Ring

open Cert.Kernel Cert.Kernel.Gen Cert.Kernel.Index
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg) (c : Dev nD)

/-- A buffer that the host operations do not write holds what it held. -/
theorem V_of_unwritten (b : Ref sig .tc) (hb : b ∉ [main_v0, main_v1, main_v2]) : V m c b = m ((c.tc : Thread nD τ).loc b) :=
  StableHlo.after_unwritten [main_v0, main_v1, main_v2] rfl hb _

/-- The probe table is the argument's rows one after the other. -/
theorem V_table : V m c main_v2 = shapeCast S13000 (m ((c.tc : Thread nD τ).loc main_arg4)) shapeCasts_S2600x5_S13000 := by
  show StableHlo.after hostOps0 _ _ = _
  after_results <;> rfl

/-- The codebook the products read: sub-space after sub-space, each transposed. -/
theorem V_book : V m c main_v1 = shapeCast S640x256 (transpose S80x8x256 [0, 2, 1] (m ((c.tc : Thread nD τ).loc main_arg3))
    transposes_S80x256x8_S80x8x256_0_2_1) shapeCasts_S80x8x256_S640x256 := by
  show StableHlo.after hostOps0 _ _ = _
  after_results <;> rfl

/-- Entry `5 q + p` of the probe table is the probe `p` of query `q`. -/
theorem tw_eq (j : Fin 13000) (q : Fin 2600) (p : Fin 5) (h : j.val = 5 * q.val + p.val) :
    tw m c j = m ((c.tc : Thread nD τ).loc main_arg4) (ix2 q p) := by
  show words tabM c (V m c main_v2) j = _
  rw [V_table]
  show shapeCast S13000 _ shapeCasts_S2600x5_S13000 (ix1 j) = _
  refine shapeCast_apply _ _ _ _ ?_
  have e1 : (Shape.rowMajor S13000 (ix1 j)).val = j.val := by simp [Shape.rowMajor_val_one]
  have e2 : (Shape.rowMajor S2600x5 (ix2 q p)).val = 5 * q.val + p.val := by
    simp [Shape.rowMajor_val_two]; exact Nat.mul_comm _ _
  omega

/-- A word that passes both comparisons of the precondition is below 11000. -/
theorem word_lt (v : BitVec 32) (e : IntOp.andi (IntOp.cmpi .sge v 0#32) (IntOp.cmpi .slt v 11000#32) = 1#1) : v.toNat < 11000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition of the claims, of the kernel's arguments. -/
def Pre : Prop := ∀ c : Dev nD, Cert.Pre_ids_in_range.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) = fun _ => 1#1

variable {m} in
/-- Under it every probe number is a row of the centroids. -/
theorem probe_lt (h : Pre m) (q : Fin 2600) (p : Fin 5) :
    BitVec.toNat (m ((c.tc : Thread nD τ).loc main_arg4) (ix2 q p) : BitVec 32) < 11000 := by
  have e := congrFun (h c) (fun a => a.elim0)
  simp only [Cert.Pre_ids_in_range.fn] at e
  haveI : Subsingleton (Cert.Pre_ids_in_range.S_).Idx := ⟨fun a b => funext fun x => x.elim0⟩
  have e' := Host.reduce_andi_all _ _ _ _ _ e (ix2 q p)
  exact word_lt _ e'

variable {m} in
theorem inRange_of_pre (h : Pre m) : InRange m := fun c j => by
  have hj := j.isLt
  rw [tw_eq m c j ⟨j.val / 5, by omega⟩ ⟨j.val % 5, by omega⟩ (by show _ = 5 * (j.val / 5) + j.val % 5; omega)]
  exact probe_lt c h _ _

/-- The run of the kernel: each result holds what the grid's blocks leave, the arguments are as they were and the
    semaphores at zero. -/
theorem run (h : Pre m) : θ_run defs (onTc (τ := τ) (main (F := F))) ⟨m, fun _ => 0, ρ⟩ (fun r => (∀ c : Dev nD,
      (r.2.mem ((c.tc : Thread nD τ).loc main_v3_0) = (dats m 0 c).arrAt (3 : Fin 6) (cfgm m).N
      ∧ r.2.mem ((c.tc : Thread nD τ).loc main_v3_1) = (dats m 0 c).arrAt (4 : Fin 6) (cfgm m).N
      ∧ r.2.mem ((c.tc : Thread nD τ).loc main_v3_2) = (dats m 0 c).arrAt (5 : Fin 6) (cfgm m).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨⟨(h.1 c).1 (3 : Fin 6), (h.1 c).1 (4 : Fin 6), (h.1 c).1 (5 : Fin 6)⟩, ?_, ?_, ?_, ?_, ?_⟩, h.2⟩) (run_main m ρ (inRange_of_pre h))
  · exact (((h.1 c).1 (0 : Fin 6)).trans ((dats m 0 c).arrAt_in (0 : Fin 6) rfl _)).trans (V_of_unwritten m c main_arg0 (by decide))
  · exact (((h.1 c).1 (1 : Fin 6)).trans ((dats m 0 c).arrAt_in (1 : Fin 6) rfl _)).trans (V_of_unwritten m c main_arg1 (by decide))
  · exact ((h.1 c).2 main_arg2 (show main_arg2 ∈ Pipeline.restRefs sig spec0 from Pipeline.mem_restRefs_of main_arg2 (by decide) (by decide))).trans (V_of_unwritten m c main_arg2 (by decide))
  · exact ((h.1 c).2 main_arg3 (show main_arg3 ∈ Pipeline.restRefs sig spec0 from Pipeline.mem_restRefs_of main_arg3 (by decide) (by decide))).trans (V_of_unwritten m c main_arg3 (by decide))
  · exact ((h.1 c).2 main_arg4 (show main_arg4 ∈ Pipeline.restRefs sig spec0 from Pipeline.mem_restRefs_of main_arg4 (by decide) (by decide))).trans (V_of_unwritten m c main_arg4 (by decide))

end Run

end Cert.Kernel.Ring

end

end
-- ==== Proof.Same.lean ====
/-
  The kernel and its idealization are one program: nothing was rewritten in it, so a run of the one is a run of the other.
-/
module

public import proofs.«01_k».proof.Kernel
public import proofs.«01_k».proof.KernelIdeal
public import proofs.«01_k».proof.Proof.Gen.Kernel
public import proofs.«01_k».proof.Proof.Gen.KernelIdeal
public import Idealize.ShloMosaic.Adequacy
public import Idealize.ShloMosaic.Init
public import Idealize.ShloMosaic.Lib.Tactic

@[expose] public section

namespace Cert.Same

open Idealize.ShloMosaic Idealize.SL.Sem

variable {F : FTy → Type} [FloatOps F]

set_option maxRecDepth 65536 in
set_option maxHeartbeats 4000000 in
/-- What holds of every run of the kernel holds of every run of its idealization, at any float values. -/
theorem run_same (m : (ℓ : Loc Cert.Kernel.nD Cert.Kernel.τ Cert.Kernel.sig) → Buf (Elt F) ℓ) (ρ : Dev Cert.Kernel.nD → PrngReg) (Q)
   (h : θ_run (Cert.Kernel.defs (F := F)) (onTc (τ := Cert.Kernel.τ) (Cert.Kernel.main (F := F))) ⟨m, fun _ => 0, ρ⟩ Q) :
   θ_run (Cert.KernelIdeal.defs (F := F)) (onTc (τ := Cert.KernelIdeal.τ) (Cert.KernelIdeal.main (F := F))) ⟨m, fun _ => 0, ρ⟩ Q := by
  have e : (θ_run (Cert.Kernel.defs (F := F)) (onTc (τ := Cert.Kernel.τ) (Cert.Kernel.main (F := F))) ⟨m, fun _ => 0, ρ⟩ Q) = (θ_run (Cert.KernelIdeal.defs (F := F)) (onTc (τ := Cert.KernelIdeal.τ) (Cert.KernelIdeal.main (F := F))) ⟨m, fun _ => 0, ρ⟩ Q) := by sl_kernel_rfl
  exact e ▸ h

end Cert.Same
-- ==== Proof.Products.lean ====
/-
  The kernel's block computations over the extended reals, each read at an index: the rotation, the distances and the
  three products that make the tables.
-/
module

public import proofs.«01_k».proof.Proof.Blocks
public import Idealize.ShloMosaic.Lib.Pointwise

@[expose] public section

noncomputable section

namespace Cert.Kernel.Value

open Cert.Kernel Cert.Kernel.Gen Cert.Kernel.Ring
open Idealize.ShloMosaic Idealize.SL.Sem
open scoped BigOperators

/-! ## Sums cut differently -/

/-- A sum over groups of eight of which a mask keeps one is that group's sum. -/
theorem sum_masked (n : ℕ) (m : ℕ) (hm : m < n) (f g : ℕ → EReal) :
    ∑ k : Fin (8 * n), (if k.val / 8 = m then f k.val else 0) * g k.val = ∑ d : Fin 8, f (8 * m + d.val) * g (8 * m + d.val) := by
  symm
  let e : Fin 8 ↪ Fin (8 * n) := ⟨fun d => ⟨8 * m + d.val, by omega⟩, fun a b h => by
    have := congrArg Fin.val h; simp only at this; exact Fin.ext (by omega)⟩
  refine (Finset.sum_map Finset.univ e (fun k : Fin (8 * n) => f k.val * g k.val)).symm.trans ?_
  refine (Finset.sum_congr rfl fun k hk => ?_).trans (Finset.sum_subset (Finset.subset_univ _) fun k _ hk => ?_)
  · obtain ⟨d, -, rfl⟩ := Finset.mem_map.1 hk
    have : (e d).val / 8 = m := by show (8 * m + d.val) / 8 = m; omega
    simp [this]
  · have : ¬ k.val / 8 = m := fun h => hk (Finset.mem_map.2 ⟨⟨k.val - 8 * m, by omega⟩, Finset.mem_univ _, Fin.ext (by
      show 8 * m + (k.val - 8 * m) = k.val; omega)⟩)
    simp [this]

/-- Five lane blocks added together and summed over the lanes are the whole row's sum. -/
theorem sum_lanes (s : ℕ → EReal) :
    ∑ l : Fin 128, (s l.val + s (128 + l.val) + s (256 + l.val) + s (384 + l.val) + s (512 + l.val)) = ∑ k : Fin 640, s k.val := by
  simp only [Finset.sum_add_distrib]
  have h := fun a b => Fin.sum_univ_add (a := a) (b := b) (fun k => s k.val)
  rw [show (640 : ℕ) = 128 + 128 + 128 + 128 + 128 from rfl]
  simp only [h, Fin.val_castAdd, Fin.val_natAdd]

/-! ## The rotation and the distances -/

/-- A rotated query: the query's row times the rotation. -/
theorem pay46_apply (x : Vec Ideal S104x1280 .bf16) (r : Vec Ideal S1280x640 .bf16) (b : Fin 104) (i : Fin 640) :
    k0_pay46 x r (ix2 b i) = ∑ k : Fin 1280, x (ix2 b k) * r (ix2 k i) := by
  pointwise [k0_pay46]

theorem pay47_apply (x : Vec Ideal S104x1280 .bf16) (r : Vec Ideal S1280x640 .bf16) (b : Fin 104) (i : Fin 640) :
    k0_pay47 x r (ix2 b i) = ∑ k : Fin 1280, x (ix2 b k) * r (ix2 k i) := by
  pointwise [k0_pay47, k0_pay46]

/-- The square of one coordinate of a query's difference from a centroid. -/
abbrev sq (x c : EReal) : EReal := (x - c) * (x - c)

theorem pay45_apply (x : Vec Ideal S1x640 .f32) (c : Vec Ideal S1x5x640 .f32) (p : Fin 5) (l : Fin 128) :
    k0_pay45 x c (ix3 0 p l) = sq (x (ix2 0 ⟨l.val, by omega⟩)) (c (ix3 0 p ⟨l.val, by omega⟩))
      + sq (x (ix2 0 ⟨128 + l.val, by omega⟩)) (c (ix3 0 p ⟨128 + l.val, by omega⟩))
      + sq (x (ix2 0 ⟨256 + l.val, by omega⟩)) (c (ix3 0 p ⟨256 + l.val, by omega⟩))
      + sq (x (ix2 0 ⟨384 + l.val, by omega⟩)) (c (ix3 0 p ⟨384 + l.val, by omega⟩))
      + sq (x (ix2 0 ⟨512 + l.val, by omega⟩)) (c (ix3 0 p ⟨512 + l.val, by omega⟩)) := by
  pointwise [k0_pay45]

theorem pay53_apply (v : Vec Ideal S104x1x128 .f32) (b : Fin 104) :
    k0_pay53 v (ix3 0 0 b) = ∑ l : Fin 128, v (ix3 b 0 l) := by
  pointwise [k0_pay53]

/-! ## The mask of a product -/

/-- The word the mask compares with the row: the column word divided by eight, rounded down. -/
def group (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 8#32 0#32)) (Scalar.extui (Scalar.cmpi .slt 8#32 0#32))))
    (IntOp.cmpi .ne (IntOp.remsi .vector w 8#32) 0#32)) (IntOp.subi (IntOp.divsi .vector w 8#32) 1#32) (IntOp.divsi .vector w 8#32)

theorem group_eq : ∀ k : Fin 256, group (BitVec.ofNat 32 k.val) = BitVec.ofNat 32 (k.val / 8) := by decide +kernel

theorem group_iff (r k : ℕ) (hr : r < 32) (hk : k < 256) :
    IntOp.cmpi .eq (group (BitVec.ofNat 32 k)) (BitVec.ofNat 32 r) = 1#1 ↔ k / 8 = r := by
  rw [group_eq ⟨k, hk⟩]
  have : (BitVec.ofNat 32 (k / 8) = BitVec.ofNat 32 r) ↔ k / 8 = r := by
    constructor
    · intro h
      have := congrArg BitVec.toNat h
      simp only [BitVec.toNat_ofNat] at this
      omega
    · rintro rfl; rfl
  rw [← this]
  show BitVec.ofBool (BitVec.ofNat 32 (k / 8) == BitVec.ofNat 32 r) = 1#1 ↔ _
  cases h : (BitVec.ofNat 32 (k / 8) == BitVec.ofNat 32 r) <;> simp_all

theorem mask1 (r : Fin 32) (k : Fin 256) : k0_pay1 (ix2 r k) = 1#1 ↔ k.val / 8 = r.val := by
  pointwise [k0_pay1]
  exact group_iff r.val k.val r.isLt k.isLt

theorem mask2 (r : Fin 32) (k : Fin 256) : k0_pay15 (ix2 r k) = 1#1 ↔ k.val / 8 = r.val := by
  pointwise [k0_pay15]
  exact group_iff r.val k.val r.isLt k.isLt

theorem mask3 (r : Fin 16) (k : Fin 128) :
    k0_pay33 (iota .tc S16x128 32 [1] iota_S16x128_d1_w32) 8#32 k0_pay31 k0_pay32 (ix2 r k) = 1#1 ↔ k.val / 8 = r.val := by
  pointwise [k0_pay33, k0_pay31, k0_pay32]
  exact group_iff r.val k.val (by omega) (by omega)

/-- One piece of a product's left factor: a query's coordinate where the mask lets it through. -/
theorem piece (x : Vec Ideal S8x640 .f32) (w : BitVec 1) (i b : Fin 8) (r m k : ℕ) (hw : w = 1#1 ↔ k / 8 = r) (hr : r = m) (hi : i = b)
    (a a' : Fin 640) (ha : a.val = a'.val) : Scalar.select w (x (ix2 i a)) 0 = if k / 8 = m then x (ix2 b a') else 0 := by
  subst hr hi
  obtain rfl := Fin.ext ha
  show (if w = 1#1 then _ else _) = _
  simp only [hw]

set_option maxRecDepth 16384 in
/-- The first product: minus two times a query's eight coordinates of a sub-space against the codebook's. -/
theorem prod1_apply (x : Vec Ideal S8x640 .f32) (cb : Vec Ideal S256x256 .bf16) (b : Fin 8) (m : Fin 32) (j : Fin 256) :
    prod1 x cb (ix2 ⟨32 * b.val + m.val, by omega⟩ j) = Scalar.ofBits (F := Ideal) .f32 0xC0000000#32 *
      ∑ d : Fin 8, x (ix2 b ⟨8 * m.val + d.val, by omega⟩) * cb (ix2 ⟨8 * m.val + d.val, by omega⟩ j) := by
  pointwise [prod1, k0_pay6, k0_pay2, k0_pay3, k0_pay4, k0_pay5]
  congr 1
  refine (Finset.sum_congr rfl fun k _ => ?_).trans ((sum_masked 32 m.val m.isLt (fun k => x (ix2 b (Fin.ofNat 640 (k))))
    (fun k => cb (ix2 (Fin.ofNat 256 k) j))).trans (Finset.sum_congr rfl fun d _ => ?_))
  · refine congrArg₂ (· * ·) ?_ (congrArg (fun k => cb (ix2 k j)) (Fin.ext (Nat.mod_eq_of_lt k.isLt).symm))
    split_ifs
    all_goals refine piece x _ _ b _ m.val k.val (mask1 _ _) ?_ (Fin.ext ?_) _ _ (Nat.mod_eq_of_lt ?_).symm
    all_goals try simp only [Fin.val_zero, Fin.val_one, Fin.isValue, Fin.reduceFinMk]
    all_goals first | omega | (show (_ : ℕ) = b.val; omega)
  · refine congrArg₂ (· * ·) (congrArg (fun k => x (ix2 b k)) (Fin.ext ?_)) (congrArg (fun k => cb (ix2 k j)) (Fin.ext ?_))
    · show ((8 * m.val + d.val)) % 640 = 8 * m.val + d.val; omega
    · show (8 * m.val + d.val) % 256 = 8 * m.val + d.val; omega

set_option maxRecDepth 16384 in
/-- The second product: minus two times a query's eight coordinates of a sub-space against the codebook's. -/
theorem prod2_apply (x : Vec Ideal S8x640 .f32) (cb : Vec Ideal S256x256 .bf16) (b : Fin 8) (m : Fin 32) (j : Fin 256) :
    prod2 x cb (ix2 ⟨32 * b.val + m.val, by omega⟩ j) = Scalar.ofBits (F := Ideal) .f32 0xC0000000#32 *
      ∑ d : Fin 8, x (ix2 b ⟨256 + 8 * m.val + d.val, by omega⟩) * cb (ix2 ⟨8 * m.val + d.val, by omega⟩ j) := by
  pointwise [prod2, k0_pay21, k0_pay16, k0_pay17, k0_pay18, k0_pay19, k0_pay20]
  congr 1
  refine (Finset.sum_congr rfl fun k _ => ?_).trans ((sum_masked 32 m.val m.isLt (fun k => x (ix2 b (Fin.ofNat 640 (256 + k))))
    (fun k => cb (ix2 (Fin.ofNat 256 k) j))).trans (Finset.sum_congr rfl fun d _ => ?_))
  · refine congrArg₂ (· * ·) ?_ (congrArg (fun k => cb (ix2 k j)) (Fin.ext (Nat.mod_eq_of_lt k.isLt).symm))
    split_ifs
    all_goals refine piece x _ _ b _ m.val k.val (mask2 _ _) ?_ (Fin.ext ?_) _ _ (Nat.mod_eq_of_lt ?_).symm
    all_goals try simp only [Fin.val_zero, Fin.val_one, Fin.isValue, Fin.reduceFinMk]
    all_goals first | omega | (show (_ : ℕ) = b.val; omega)
  · refine congrArg₂ (· * ·) (congrArg (fun k => x (ix2 b k)) (Fin.ext ?_)) (congrArg (fun k => cb (ix2 k j)) (Fin.ext ?_))
    · show (256 + (8 * m.val + d.val)) % 640 = 256 + 8 * m.val + d.val; omega
    · show (8 * m.val + d.val) % 256 = 8 * m.val + d.val; omega

set_option maxRecDepth 16384 in
/-- The third product: minus two times a query's eight coordinates of a sub-space against the codebook's. -/
theorem prod3_apply (x : Vec Ideal S8x640 .f32) (cb : Vec Ideal S128x256 .bf16) (b : Fin 8) (m : Fin 16) (j : Fin 256) :
    prod3 x cb (ix2 ⟨16 * b.val + m.val, by omega⟩ j) = Scalar.ofBits (F := Ideal) .f32 0xC0000000#32 *
      ∑ d : Fin 8, x (ix2 b ⟨512 + 8 * m.val + d.val, by omega⟩) * cb (ix2 ⟨8 * m.val + d.val, by omega⟩ j) := by
  pointwise [prod3, k0_pay40, k0_pay34, k0_pay35, k0_pay36, k0_pay37, k0_pay38, k0_pay39]
  congr 1
  refine (Finset.sum_congr rfl fun k _ => ?_).trans ((sum_masked 16 m.val m.isLt (fun k => x (ix2 b (Fin.ofNat 640 (512 + k))))
    (fun k => cb (ix2 (Fin.ofNat 128 k) j))).trans (Finset.sum_congr rfl fun d _ => ?_))
  · refine congrArg₂ (· * ·) ?_ (congrArg (fun k => cb (ix2 k j)) (Fin.ext (Nat.mod_eq_of_lt k.isLt).symm))
    split_ifs
    all_goals refine piece x _ _ b _ m.val k.val (mask3 _ _) ?_ (Fin.ext ?_) _ _ (Nat.mod_eq_of_lt ?_).symm
    all_goals try simp only [Fin.val_zero, Fin.val_one, Fin.isValue, Fin.reduceFinMk]
    all_goals first | omega | (show (_ : ℕ) = b.val; omega)
  · refine congrArg₂ (· * ·) (congrArg (fun k => x (ix2 b k)) (Fin.ext ?_)) (congrArg (fun k => cb (ix2 k j)) (Fin.ext ?_))
    · show (512 + (8 * m.val + d.val)) % 640 = 512 + 8 * m.val + d.val; omega
    · show (8 * m.val + d.val) % 128 = 8 * m.val + d.val; omega

end Cert.Kernel.Value

end

end
-- ==== Proof.Arrays.lean ====
/-
  The blocks the kernel reads and writes, as parts of their arrays.
-/
module

public import proofs.«01_k».proof.Proof.Frame
public import proofs.«01_k».proof.Proof.Products
public import Idealize.ShloMosaic.Lib.Pipeline.ValueKit

@[expose] public section

noncomputable section

namespace Cert.Kernel.Value

open Cert.Kernel Cert.Kernel.Gen Cert.Kernel.Ring
open Idealize.ShloMosaic Idealize.SL.Sem
open scoped BigOperators

variable (m : (ℓ : Loc nD τ sig) → Buf (Elt Ideal) ℓ) (c : Dev nD)

/-- The arguments as arrays: the queries, the rotation, the centroids, the codebook and the probe numbers. -/
abbrev queries : Vec Ideal S2600x1280 .bf16 := m ((c.tc : Thread nD τ).loc main_arg0)
abbrev rotation : Vec Ideal S1280x640 .bf16 := m ((c.tc : Thread nD τ).loc main_arg1)
abbrev centroids : Vec Ideal S11000x640 .f32 := m ((c.tc : Thread nD τ).loc main_arg2)
abbrev codebook : Vec Ideal S80x256x8 .bf16 := m ((c.tc : Thread nD τ).loc main_arg3)
abbrev probes : IVec S2600x5 32 := m ((c.tc : Thread nD τ).loc main_arg4)

/-- A table of probe numbers, for stating what the windows' shapes alone decide. -/
def adm₀ : (pcfg0 (F := Ideal)).Adm := ⟨fun | 0 => fun _ => 0#32 | ⟨_ + 1, h⟩ => absurd h (Nat.not_lt.2 (Nat.le_add_left _ _)), trivial⟩

theorem covers3₀ : ((cfg0 adm₀).win 3).Covers := by decide +kernel
theorem covers4₀ : ((cfg0 adm₀).win 4).Covers := by decide +kernel
theorem covers5₀ : ((cfg0 adm₀).win 5).Covers := by decide +kernel
theorem covers3 : ((cfgm m).win 3).Covers := covers3₀
theorem covers4 : ((cfgm m).win 4).Covers := covers4₀
theorem covers5 : ((cfgm m).win 5).Covers := covers5₀

theorem at0 : ∀ t : Fin grid0.N, cc0_transform_0 (grid0.coords t) = ![t.val, 0] := by decide +kernel
theorem at4 : ∀ t : Fin grid0.N, cc0_transform_4 (grid0.coords t) = ![t.val, 0, 0] := by decide +kernel
theorem at5 : ∀ t : Fin grid0.N, cc0_transform_5 (grid0.coords t) = ![t.val, 0, 0] := by decide +kernel
theorem at6 : ∀ t : Fin grid0.N, cc0_transform_6 (grid0.coords t) = ![t.val, 0] := by decide +kernel

/-- The query block of a grid point is 104 of the queries. -/
theorem xBlk_apply (t : Fin (cfgm m).N) (b : Fin 104) (k : Fin 1280) (q : Fin 2600) (hq : q.val = 104 * t.val + b.val) :
    xBlk m c t (ix2 b k) = queries m c (ix2 q k) := by
  show V m c main_arg0 ((((cfgm m).win 0).blk t).view.emb (ix2 b k)) = _
  rw [V_of_unwritten m c main_arg0 (by decide)]
  refine congrArg _ (funext fun a => Fin.ext ?_)
  refine (Pipeline.Window.rect_emb_val ((cfgm m).win 0) t (ix2 b k) a).trans ?_
  show cc0_transform_0 (grid0.coords t) a * (S104x1280.size a) + _ = _
  rw [at0 t]
  fin_cases a
  · show t.val * 104 + b.val = q.val; omega
  · show 0 * 1280 + k.val = k.val; omega

/-- The rotation's block is the whole rotation. -/
theorem rBlk_apply (t : Fin (cfgm m).N) (k : Fin 1280) (i : Fin 640) : rBlk m c t (ix2 k i) = rotation m c (ix2 k i) := by
  show V m c main_arg1 ((((cfgm m).win 1).blk t).view.emb (ix2 k i)) = _
  rw [V_of_unwritten m c main_arg1 (by decide)]
  refine congrArg _ (funext fun a => Fin.ext ?_)
  refine (Pipeline.Window.rect_emb_val ((cfgm m).win 1) t (ix2 k i) a).trans ?_
  fin_cases a
  · show 0 * 1280 + k.val = k.val; omega
  · show 0 * 640 + i.val = i.val; omega

/-- The codebook's block: row `8 s + d` is coordinate `d` of sub-space `s`. -/
theorem qBlk_apply (t : Fin (cfgm m).N) (s : Fin 80) (d : Fin 8) (j : Fin 256) (k : Fin 640) (hk : k.val = 8 * s.val + d.val) :
    qBlk m c t (ix2 k j) = codebook m c (ix3 s j d) := by
  show V m c main_v1 ((((cfgm m).win 2).blk t).view.emb (ix2 k j)) = _
  have e : (((cfgm m).win 2).blk t).view.emb (ix2 k j) = (ix2 k j : S640x256.Idx) := by
    funext a
    refine Fin.ext ((Pipeline.Window.rect_emb_val ((cfgm m).win 2) t (ix2 k j) a).trans ?_)
    fin_cases a
    · show 0 * 640 + k.val = k.val; omega
    · show 0 * 256 + j.val = j.val; omega
  refine (congrArg (V m c main_v1) e).trans ?_
  rw [V_book]
  pointwise
  refine congrArg₂ (fun s d => codebook m c (ix3 s j d)) (Fin.ext ?_) (Fin.ext ?_)
  · show k.val / 8 = s.val; omega
  · show k.val % 8 = d.val; omega

/-! ## The three results -/

/-- Coordinate `i` of the rotated query `q`. -/
def rot (q : Fin 2600) (i : Fin 640) : EReal := ∑ k : Fin 1280, queries m c (ix2 q k) * rotation m c (ix2 k i)

theorem rotated (t : Fin (cfgm m).N) (b : Fin 104) (i : Fin 640) (q : Fin 2600) (hq : q.val = 104 * t.val + b.val) :
    k0_pay47 (xBlk m c t) (rBlk m c t) (ix2 b i) = rot m c q i := by
  refine (pay47_apply _ _ b i).trans (Finset.sum_congr rfl fun k _ => ?_)
  rw [xBlk_apply m c t b k q hq, rBlk_apply m c t k i]

/-- The table entry of query `q`, sub-space `s` and code `j`. -/
def entry (q : Fin 2600) (s : Fin 80) (j : Fin 256) : EReal :=
  Scalar.ofBits (F := Ideal) .f32 0xC0000000#32 * ∑ d : Fin 8, rot m c q ⟨8 * s.val + d.val, by omega⟩ * codebook m c (ix3 s j d)

/-- The squared distance of query `q` from row `r` of the centroids. -/
def dist (q : Fin 2600) (r : Fin 11000) : EReal := ∑ k : Fin 640, sq (rot m c q k) (centroids m c (ix2 r k))

theorem tables_apply (t : Fin (cfgm m).N) (b : Fin 104) (s : Fin 80) (j : Fin 256) (q : Fin 2600) (hq : q.val = 104 * t.val + b.val) :
    tables (k0_pay47 (xBlk m c t) (rBlk m c t)) (qBlk m c t) (ix3 b s j) = entry m c q s j := by
  show entryOf _ _ b.val s j = _
  have hb := b.isLt
  have hs := s.isLt
  have left : ∀ (i : Fin 640) , octet (k0_pay47 (xBlk m c t) (rBlk m c t)) (b.val / 8) (ix2 ⟨b.val % 8, by omega⟩ i) = rot m c q i := fun i => by
    refine (congrArg (k0_pay47 (xBlk m c t) (rBlk m c t)) (?_ : _ = (ix2 b i : S104x640.Idx))).trans (rotated m c t b i q hq)
    funext a
    fin_cases a
    · exact Fin.ext (by show (8 * (b.val / 8) + b.val % 8) % 104 = b.val; omega)
    · rfl
  unfold entryOf entry
  by_cases h1 : s.val < 32
  · rw [if_pos h1]
    refine (congrArg (fun r => prod1 _ _ (ValueIdx.ix2 r j)) (Fin.ext (?_ : _ = 32 * (b.val % 8) + s.val))).trans
      ((prod1_apply _ _ ⟨b.val % 8, by omega⟩ ⟨s.val, h1⟩ j).trans (congrArg _ (Finset.sum_congr rfl fun d _ => ?_)))
    · show (32 * (b.val % 8) + s.val) % 256 = _; omega
    · refine congrArg₂ (· * ·) (left _) (qBlk_apply m c t s d j _ ?_)
      show (0 + (8 * s.val + d.val)) % 640 = _; omega
  by_cases h2 : s.val < 64
  · rw [if_neg h1, if_pos h2]
    refine (congrArg (fun r => prod2 _ _ (ValueIdx.ix2 r j)) (Fin.ext (?_ : _ = 32 * (b.val % 8) + (s.val - 32)))).trans
      ((prod2_apply _ _ ⟨b.val % 8, by omega⟩ ⟨s.val - 32, by omega⟩ j).trans (congrArg _ (Finset.sum_congr rfl fun d _ => ?_)))
    · show (32 * (b.val % 8) + (s.val - 32)) % 256 = _; omega
    · refine congrArg₂ (· * ·) ((left _).trans (congrArg _ (Fin.ext ?_))) (qBlk_apply m c t s d j _ ?_)
      · show 256 + 8 * (s.val - 32) + d.val = 8 * s.val + d.val; omega
      · show (256 + (8 * (s.val - 32) + d.val)) % 640 = _; omega
  · rw [if_neg h1, if_neg h2]
    refine (congrArg (fun r => prod3 _ _ (ValueIdx.ix2 r j)) (Fin.ext (?_ : _ = 16 * (b.val % 8) + (s.val - 64)))).trans
      ((prod3_apply _ _ ⟨b.val % 8, by omega⟩ ⟨s.val - 64, by omega⟩ j).trans (congrArg _ (Finset.sum_congr rfl fun d _ => ?_)))
    · show (16 * (b.val % 8) + (s.val - 64)) % 128 = _; omega
    · refine congrArg₂ (· * ·) ((left _).trans (congrArg _ (Fin.ext ?_))) (qBlk_apply m c t s d j _ ?_)
      · show 512 + 8 * (s.val - 64) + d.val = 8 * s.val + d.val; omega
      · show (512 + (8 * (s.val - 64) + d.val)) % 640 = _; omega

theorem coarse_apply (t : Fin (cfgm m).N) (p : Fin 5) (b : Fin 104) (q : Fin 2600) (hq : q.val = 104 * t.val + b.val) (r : Fin 11000)
    (hr : r.val = (probes m c (ix2 q p)).toNat) : cOut m c t (ix3 0 p b) = dist m c q r := by
  unfold cOut coarse
  refine (pay53_apply _ b).trans ?_
  have hrow : rowOf (tw m c) (104 * t.val + b.val) p = r := Fin.ext (by
    unfold rowOf
    rw [tw_eq m c _ q p (by show (5 * (104 * t.val + b.val) + p.val) % 13000 = _; have := q.isLt; omega)]
    show (probes m c (ix2 q p)).toNat % 11000 = r.val
    rw [← hr]; exact Nat.mod_eq_of_lt r.isLt)
  let s : ℕ → EReal := fun k => sq (rot m c q (Fin.ofNat 640 k)) (centroids m c (ix2 r (Fin.ofNat 640 k)))
  refine (Finset.sum_congr rfl fun l _ => ?_).trans ((sum_lanes s).trans (Finset.sum_congr rfl fun k _ => ?_))
  · show halves _ _ _ _ b (ix3 0 p l) = _
    unfold halves
    refine (pay45_apply _ _ p l).trans ?_
    have hx : ∀ (i : Fin 640), k0_pay47 (xBlk m c t) (rBlk m c t) (ix2 b i) = rot m c q i := fun i => rotated m c t b i q hq
    have hc : ∀ (i : Fin 640), cenM.view.read (Elt Ideal) (V m c main_arg2) (ix2 (rowOf (tw m c) (104 * t.val + b.val) p) i)
        = centroids m c (ix2 r i) := fun i => by
      rw [hrow, V_of_unwritten m c main_arg2 (by decide)]; rfl
    have hs : ∀ (i : Fin 640), sq (k0_pay47 (xBlk m c t) (rBlk m c t) (ix2 b i))
        (cenM.view.read (Elt Ideal) (V m c main_arg2) (ix2 (rowOf (tw m c) (104 * t.val + b.val) p) i)) = s i.val := fun i => by
      rw [hx, hc]
      show _ = sq (rot m c q (Fin.ofNat 640 i.val)) (centroids m c (ix2 r (Fin.ofNat 640 i.val)))
      rw [show Fin.ofNat 640 i.val = i from Fin.ext (Nat.mod_eq_of_lt i.isLt)]
    exact congrArg₂ (· + ·) (congrArg₂ (· + ·) (congrArg₂ (· + ·) (congrArg₂ (· + ·) (hs ⟨l.val, by omega⟩) (hs ⟨128 + l.val, by omega⟩))
      (hs ⟨256 + l.val, by omega⟩)) (hs ⟨384 + l.val, by omega⟩)) (hs ⟨512 + l.val, by omega⟩)
  · show sq (rot m c q (Fin.ofNat 640 k.val)) (centroids m c (ix2 r (Fin.ofNat 640 k.val))) = _
    rw [show Fin.ofNat 640 k.val = k from Fin.ext (Nat.mod_eq_of_lt k.isLt)]

/-- THE ROTATED QUERIES the kernel leaves. -/
theorem final_rot : (dats m 0 c).arrAt (5 : Fin 6) (cfgm m).N = fun y : S2600x640.Idx => rot m c (y 0) (y 1) := by
  refine (dats m 0 c).arrAt_eq_of_covers (5 : Fin 6) _ (covers5 m) fun t hf y => ?_
  obtain ⟨b, i, rfl⟩ : ∃ (b : Fin 104) (i : Fin 640), y = ix2 b i := ⟨y 0, y 1, (ValueIdx.eq_ix2 y).trans (ix2_eq_valueIdx _ _).symm⟩
  have ht : t.val < 25 := t.isLt
  have e : ∀ a : Fin 2, ((((cfgm m).win 5).blk t).view.emb (ix2 b i) a).val = (![104 * t.val + b.val, i.val] : Fin 2 → ℕ) a := fun a => by
    refine (Pipeline.Window.rect_emb_val ((cfgm m).win 5) t (ix2 b i) a).trans ?_
    show cc0_transform_6 (grid0.coords t) a * (S104x640.size a) + _ = _
    rw [at6 t]
    fin_cases a
    · show t.val * 104 + b.val = _; exact congrArg (· + b.val) (Nat.mul_comm _ _)
    · show 0 * 640 + i.val = i.val; omega
  show k0_pay46 (xBlk m c t) (rBlk m c t) (ix2 b i) = rot m c _ _
  refine (pay46_apply _ _ b i).trans ((pay47_apply _ _ b i).symm.trans ((rotated m c t b i _ (e 0)).trans (congrArg _ (Fin.ext (e 1).symm))))

/-- THE TABLES the kernel leaves. -/
theorem final_tab : (dats m 0 c).arrAt (4 : Fin 6) (cfgm m).N = fun y : S2600x80x256.Idx => entry m c (y 0) (y 1) (y 2) := by
  refine (dats m 0 c).arrAt_eq_of_covers (4 : Fin 6) _ (covers4 m) fun t hf y => ?_
  obtain ⟨b, s, j, rfl⟩ : ∃ (b : Fin 104) (s : Fin 80) (j : Fin 256), y = ix3 b s j := ⟨y 0, y 1, y 2, (ValueIdx.eq_ix3 y).trans (ix3_eq_valueIdx _ _ _).symm⟩
  have e : ∀ a : Fin 3, ((((cfgm m).win 4).blk t).view.emb (ix3 b s j) a).val = (![104 * t.val + b.val, s.val, j.val] : Fin 3 → ℕ) a := fun a => by
    refine (Pipeline.Window.rect_emb_val ((cfgm m).win 4) t (ix3 b s j) a).trans ?_
    show cc0_transform_5 (grid0.coords t) a * (S104x80x256.size a) + _ = _
    rw [at5 t]
    fin_cases a
    · show t.val * 104 + b.val = _; exact congrArg (· + b.val) (Nat.mul_comm _ _)
    · show 0 * 80 + s.val = s.val; omega
    · show 0 * 256 + j.val = j.val; omega
  show tables (k0_pay47 (xBlk m c t) (rBlk m c t)) (qBlk m c t) (ix3 b s j) = entry m c _ _ _
  refine (tables_apply m c t b s j _ (e 0)).trans ?_
  exact congrArg₂ (entry m c _) (Fin.ext (e 1).symm) (Fin.ext (e 2).symm)

/-- The query that an index of the coarse distances speaks of. -/
abbrev queryOf (t : Fin 25) (b : Fin 104) : Fin 2600 := ⟨104 * t.val + b.val, by omega⟩

/-- The coarse distances, probe by probe: query `104 t + b` from the centroid of its probe `p`. -/
def coarseOf (h : ∀ q p, (probes m c (ix2 q p)).toNat < 11000) : Vec Ideal S25x5x104 .f32 := fun y =>
  dist m c (queryOf (y 0) (y 2)) ⟨(probes m c (ix2 (queryOf (y 0) (y 2)) (y 1))).toNat, h _ _⟩

theorem coarseOf_block (h : ∀ q p, (probes m c (ix2 q p)).toNat < 11000) (t : Fin (cfgm m).N) (p : Fin 5) (b : Fin 104) :
    cOut m c t (ix3 0 p b) = coarseOf m c h (ix3 (⟨t.val, t.isLt⟩ : Fin 25) p b) :=
  coarse_apply m c t p b (queryOf ⟨t.val, t.isLt⟩ b) rfl _ rfl

/-- THE COARSE DISTANCES the kernel leaves, when each probe number is a row of the centroids. -/
theorem final_coarse (h : ∀ q p, (probes m c (ix2 q p)).toNat < 11000) : (dats m 0 c).arrAt (3 : Fin 6) (cfgm m).N
    = fun y : S25x5x104.Idx => coarseOf m c h y := by
  refine (dats m 0 c).arrAt_eq_of_covers (3 : Fin 6) _ (covers3 m) fun t hf y => ?_
  obtain ⟨u, p, b, rfl⟩ : ∃ (u : Fin 1) (p : Fin 5) (b : Fin 104), y = ix3 u p b := ⟨y 0, y 1, y 2, (ValueIdx.eq_ix3 y).trans (ix3_eq_valueIdx _ _ _).symm⟩
  obtain rfl : u = 0 := Subsingleton.elim _ _
  have e : ∀ a : Fin 3, ((((cfgm m).win 3).blk t).view.emb (ix3 0 p b) a).val = (![t.val, p.val, b.val] : Fin 3 → ℕ) a := fun a => by
    refine (Pipeline.Window.rect_emb_val ((cfgm m).win 3) t (ix3 0 p b) a).trans ?_
    show cc0_transform_4 (grid0.coords t) a * (S1x5x104.size a) + _ = _
    rw [at4 t]
    fin_cases a
    · show t.val * 1 + 0 = t.val; omega
    · show 0 * 5 + p.val = p.val; omega
    · show 0 * 104 + b.val = b.val; omega
  have ei : (((cfgm m).win 3).blk t).view.emb (ix3 0 p b) = (ix3 (⟨t.val, t.isLt⟩ : Fin 25) p b : S25x5x104.Idx) := by
    funext a
    refine Fin.ext ((e a).trans ?_)
    fin_cases a <;> rfl
  show cOut m c t (ix3 0 p b) = coarseOf m c h ((((cfgm m).win 3).blk t).view.emb (ix3 0 p b))
  exact (coarseOf_block m c h t p b).trans (congrArg (coarseOf m c h) ei.symm)

end Cert.Kernel.Value

end

end
-- ==== Proof.Reference.lean ====
/-
  The reference's three results over the extended reals, each read at an index.
-/
module

public import proofs.«01_k».proof.Proof.Gen.ReferenceIdeal.Run
public import Idealize.ShloMosaic.Lib.Pointwise
public import Idealize.ShloMosaic.Lib.ValueIdxCore

@[expose] public section

noncomputable section

namespace Cert.ReferenceIdeal.Read

open Cert.ReferenceIdeal Cert.ReferenceIdeal.Gen
open Idealize.ShloMosaic Idealize.SL.Sem
open scoped BigOperators

variable (a0 : FVec Ideal S2600x1280 .bf16) (a1 : FVec Ideal S1280x640 .bf16) (a2 : FVec Ideal S11000x640 .f32)
  (a3 : FVec Ideal S80x256x8 .bf16) (a4 : IVec S2600x5 32)

/-- The rotated queries. -/
abbrev rotT : FVec Ideal S2600x640 .bf16 :=
  truncf (F := Ideal) .bf16 (Host.dotGeneral dot_S2600x1280_S1280x640_S2600x640_1_0_0_1_n_n none a0 a1) bitsLt_bf16_f32

theorem rot_apply (q : Fin 2600) (i : Fin 640) : rotT a0 a1 (ix2 q i) = ∑ k : Fin 1280, a0 (ix2 q k) * a1 (ix2 k i) := by
  pointwise [rotT]

/-- The tables, of rotated queries. -/
abbrev tabT (x : FVec Ideal S2600x640 .bf16) : FVec Ideal S2600x80x256 .f32 :=
  mulf (F := Ideal) (broadcastInDim S2600x80x256 ![] bcast_S_S2600x80x256 (constant S_ .f32 0xC0000000#32))
    (transpose S2600x80x256 [2, 0, 1] (Host.dotGeneral dot_S80x256x8_S2600x80x8_S80x256x2600_2_2_1_0_0_1 none a3
      (shapeCast _ x shapeCasts_S2600x640_S2600x80x8)) transposes_S80x256x2600_S2600x80x256_2_0_1)

theorem tab_apply (x : FVec Ideal S2600x640 .bf16) (q : Fin 2600) (s : Fin 80) (j : Fin 256) : tabT a3 x (ix3 q s j)
    = Scalar.ofBits (F := Ideal) .f32 0xC0000000#32 * ∑ d : Fin 8, x (ix2 q ⟨8 * s.val + d.val, by omega⟩) * a3 (ix3 s j d) := by
  pointwise [tabT]
  refine congrArg _ (Finset.sum_congr rfl fun d _ => (mul_comm _ _).trans ?_)
  refine congrArg (fun k => x (ix2 q k) * a3 (ix3 s j d)) (Fin.ext ?_)
  show s.val * 8 + d.val = 8 * s.val + d.val; omega

/-- The probe numbers with negative ones counted from the end, as the centroids are gathered by. -/
abbrev idxT : IVec S2600x5x1 32 := broadcastInDim S2600x5x1 ![0, 1] bcast_S2600x5_S2600x5x1_0_1
  (select (cmpi .slt a4 (broadcastInDim S2600x5 ![] bcast_S_S2600x5 (constantI S_ 32 0#32)))
    (addi a4 (broadcastInDim S2600x5 ![] bcast_S_S2600x5 (constantI S_ 32 11000#32))) a4)

theorem idx_apply (q : Fin 2600) (p : Fin 5) (h : (a4 (ix2 q p)).toNat < 11000) : idxT a4 (ix3 q p 0) = a4 (ix2 q p) := by
  pointwise [idxT]
  have e : IntOp.cmpi .slt (a4 (ix2 q p)) 0#32 = 0#1 := by
    show BitVec.ofBool (BitVec.slt _ _) = _
    have : BitVec.slt (a4 (ix2 q p)) 0#32 = false := by
      rw [BitVec.slt_eq_decide, BitVec.toInt_eq_toNat_cond, if_pos (by omega)]
      simp
    rw [this]; rfl
  rw [e]; rfl

/-- A gathered coordinate: that of the centroid the index names. -/
theorem gather_apply (ix : IVec S2600x5x1 32) (q : Fin 2600) (p : Fin 5) (i : Fin 640) (r : Fin 11000) (h : (ix (ix3 q p 0)).toNat = r.val) :
    Host.gather gather_S11000x640_S2600x5x1_S2600x5x640_2_0_n_n_0_2_1640 a2 ix (ix3 q p i) = a2 (ix2 r i) := by
  unfold Host.gather
  refine congrArg a2 (funext fun a => Fin.ext ?_)
  show gather_S11000x640_S2600x5x1_S2600x5x640_2_0_n_n_0_2_1640.start (ix3 q p i) ix a
    + gather_S11000x640_S2600x5x1_S2600x5x640_2_0_n_n_0_2_1640.batchCoord (ix3 q p i) a
    + gather_S11000x640_S2600x5x1_S2600x5x640_2_0_n_n_0_2_1640.offCoord (ix3 q p i) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S11000x640_S2600x5x1_S2600x5x640_2_0_n_n_0_2_1640.startIndexMap from List.mem_singleton.mpr rfl)]
    have hsi : gather_S11000x640_S2600x5x1_S2600x5x640_2_0_n_n_0_2_1640.siIdx (ix3 q p i) ⟨List.idxOf (0 : Fin 2) gather_S11000x640_S2600x5x1_S2600x5x640_2_0_n_n_0_2_1640.startIndexMap,
        List.idxOf_lt_length_iff.2 (List.mem_singleton.mpr rfl)⟩ = ix3 q p 0 := by
      funext b; refine Fin.ext ?_
      match b with
      | ⟨0, _⟩ => rfl
      | ⟨1, _⟩ => rfl
      | ⟨2, _⟩ => rfl
    rw [hsi]
    show min (ix (ix3 q p 0)).toInt.toNat (11000 - 1) = r.val
    have hr := r.isLt
    rw [BitVec.toInt_eq_toNat_cond, if_pos (by omega)]
    omega
  · have hs : gather_S11000x640_S2600x5x1_S2600x5x640_2_0_n_n_0_2_1640.start (ix3 q p i) ix 1 = 0 := by
      unfold GatherDims.start
      exact dif_neg (by decide)
    rw [hs]
    unfold GatherDims.offCoord
    rw [dif_pos (by decide)]
    have key : ∀ X : Fin 3, X = 2 → 0 + 0 + (ix3 q p i X).val = i.val := by
      rintro _ rfl
      show 0 + 0 + i.val = i.val
      omega
    exact key _ (by decide)

/-- The coarse distances, of rotated queries and gathered centroids. -/
abbrev coarseT (x : FVec Ideal S2600x640 .bf16) (g : FVec Ideal S2600x5x640 .f32) : FVec Ideal S25x5x104 .f32 :=
  transpose S25x5x104 [0, 2, 1] (shapeCast _ (Host.reduceAdd (F := Ideal) (mulf
      (subf (broadcastInDim S2600x5x640 ![0, 1, 2] bcast_S2600x1x640_S2600x5x640_0_1_2 (broadcastInDim S2600x1x640 ![0, 2] bcast_S2600x640_S2600x1x640_0_2 (extf .f32 x bitsLt_bf16_f32))) g)
      (subf (broadcastInDim S2600x5x640 ![0, 1, 2] bcast_S2600x1x640_S2600x5x640_0_1_2 (broadcastInDim S2600x1x640 ![0, 2] bcast_S2600x640_S2600x1x640_0_2 (extf .f32 x bitsLt_bf16_f32))) g))
    (constant S_ .f32 0x00000000#32) reducesTo_S2600x5x640_S2600x5_d2 h_S_) shapeCasts_S2600x5_S25x104x5) transposes_S25x104x5_S25x5x104_0_2_1

theorem coarse_apply (x : FVec Ideal S2600x640 .bf16) (g : FVec Ideal S2600x5x640 .f32) (t : Fin 25) (p : Fin 5) (b : Fin 104) (q : Fin 2600) (hq : q.val = 104 * t.val + b.val) :
    coarseT x g (ix3 t p b) = ∑ k : Fin 640, (x (ix2 q k) - g (ix3 q p k)) * (x (ix2 q k) - g (ix3 q p k)) := by
  obtain ⟨q, hlt⟩ := q
  obtain rfl : q = t.val * 104 + b.val := by have : q = 104 * t.val + b.val := hq; omega
  pointwise [coarseT]

end Cert.ReferenceIdeal.Read

end

end
-- ==== Proof.Agree.lean ====
/-
  The kernel's three results are the reference's, over the extended reals.
-/
module

public import proofs.«01_k».proof.Proof.Arrays
public import proofs.«01_k».proof.Proof.Reference

@[expose] public section

noncomputable section

namespace Cert.Agree

open Cert.Kernel Cert.Kernel.Gen Cert.Kernel.Value
open Cert.Kernel.Ring (dats cfgm)
open Idealize.ShloMosaic Idealize.SL.Sem
open Cert.ReferenceIdeal.Read (rotT tabT idxT coarseT)
open scoped BigOperators

variable (m : (ℓ : Loc nD τ sig) → Buf (Elt Ideal) ℓ) (c : Dev nD)

/-- The rotated queries agree. -/
theorem rot_eq : rotT (queries m c) (rotation m c) = fun y : S2600x640.Idx => rot m c (y 0) (y 1) := by
  funext y
  obtain ⟨q, i, rfl⟩ : ∃ (q : Fin 2600) (i : Fin 640), y = ix2 q i := ⟨y 0, y 1, (ValueIdx.eq_ix2 y).trans (ix2_eq_valueIdx _ _).symm⟩
  exact Cert.ReferenceIdeal.Read.rot_apply (queries m c) (rotation m c) q i

/-- The tables agree. -/
theorem tab_eq : tabT (codebook m c) (rotT (queries m c) (rotation m c)) = fun y : S2600x80x256.Idx => entry m c (y 0) (y 1) (y 2) := by
  rw [rot_eq]
  funext y
  obtain ⟨q, s, j, rfl⟩ : ∃ (q : Fin 2600) (s : Fin 80) (j : Fin 256), y = ix3 q s j := ⟨y 0, y 1, y 2, (ValueIdx.eq_ix3 y).trans (ix3_eq_valueIdx _ _ _).symm⟩
  exact Cert.ReferenceIdeal.Read.tab_apply (codebook m c) _ q s j

/-- The coarse distances agree. -/
theorem coarse_eq (h : ∀ q p, (probes m c (ix2 q p)).toNat < 11000) :
    coarseT (rotT (queries m c) (rotation m c))
      (Host.gather Cert.ReferenceIdeal.gather_S11000x640_S2600x5x1_S2600x5x640_2_0_n_n_0_2_1640 (centroids m c) (idxT (probes m c)))
    = coarseOf m c h := by
  rw [rot_eq]
  funext y
  obtain ⟨t, p, b, rfl⟩ : ∃ (t : Fin 25) (p : Fin 5) (b : Fin 104), y = ix3 t p b := ⟨y 0, y 1, y 2, (ValueIdx.eq_ix3 y).trans (ix3_eq_valueIdx _ _ _).symm⟩
  refine (Cert.ReferenceIdeal.Read.coarse_apply _ _ t p b (queryOf t b) rfl).trans ?_
  show _ = ∑ k : Fin 640, sq (rot m c (queryOf t b) k) (centroids m c (ix2 ⟨(probes m c (ix2 (queryOf t b) p)).toNat, h _ _⟩ k))
  refine Finset.sum_congr rfl fun k _ => ?_
  have e := Cert.ReferenceIdeal.Read.gather_apply (centroids m c) (idxT (probes m c)) (queryOf t b) p k
    ⟨(probes m c (ix2 (queryOf t b) p)).toNat, h _ _⟩
    (congrArg BitVec.toNat (Cert.ReferenceIdeal.Read.idx_apply (probes m c) (queryOf t b) p (h _ _)))
  rw [e]
  rfl

variable (a0 : FVec Ideal Cert.ReferenceIdeal.S2600x1280 .bf16) (a1 : FVec Ideal Cert.ReferenceIdeal.S1280x640 .bf16)
  (a2 : FVec Ideal Cert.ReferenceIdeal.S11000x640 .f32) (a3 : FVec Ideal Cert.ReferenceIdeal.S80x256x8 .bf16)
  (a4 : IVec Cert.ReferenceIdeal.S2600x5 32)

/-- The rotated queries, of the reference's own arguments. -/
theorem final_rot (h0 : a0 = queries m c) (h1 : a1 = rotation m c) : rotT a0 a1 = (dats m 0 c).arrAt (5 : Fin 6) (cfgm m).N := by
  subst h0 h1
  exact (rot_eq m c).trans (Cert.Kernel.Value.final_rot m c).symm

/-- The tables, of the reference's own arguments. -/
theorem final_tab (h0 : a0 = queries m c) (h1 : a1 = rotation m c) (h3 : a3 = codebook m c) :
    tabT a3 (rotT a0 a1) = (dats m 0 c).arrAt (4 : Fin 6) (cfgm m).N := by
  subst h0 h1 h3
  exact (tab_eq m c).trans (Cert.Kernel.Value.final_tab m c).symm

/-- The coarse distances, of the reference's own arguments. -/
theorem final_coarse (h : ∀ q p, (probes m c (ix2 q p)).toNat < 11000) (h0 : a0 = queries m c) (h1 : a1 = rotation m c)
    (h2 : a2 = centroids m c) (h4 : a4 = probes m c) :
    coarseT (rotT a0 a1) (Host.gather Cert.ReferenceIdeal.gather_S11000x640_S2600x5x1_S2600x5x640_2_0_n_n_0_2_1640 a2 (idxT a4))
      = (dats m 0 c).arrAt (3 : Fin 6) (cfgm m).N := by
  subst h0 h1 h2 h4
  exact (coarse_eq m c h).trans (Cert.Kernel.Value.final_coarse m c h).symm

end Cert.Agree

end

end
-- ==== Proof.lean ====
/-
  The claims of this directory (`Defs.lean`), assembled: the kernel's run is proved once for any float values
  (`Proof/Frame.lean`), its idealization is the same program (`Proof/Same.lean`), the reference's run is its
  operations read back, and the two agree on every result (`Proof/Agree.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_range
public import proofs.«01_k».proof.Proof.Gen.ReferenceIdeal.Run
public import proofs.«01_k».proof.Proof.Frame
public import proofs.«01_k».proof.Proof.Same
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs and leaves its arguments as they were, at bit patterns. -/
theorem frame_kernel : Cert.quiescent_Kernel :=
  fun m g h => (θ_run _ _ _).mono (fun _ hr => ⟨fun c => (hr.1 c).2, hr.2⟩) (Cert.Kernel.Ring.run m g h)

/-- And over the extended reals. -/
theorem frame_kernelIdeal : Cert.quiescent_KernelIdeal :=
  fun m g h => Cert.Same.run_same m g _
    ((θ_run _ _ _).mono (fun _ hr => ⟨fun c => (hr.1 c).2, hr.2⟩) (Cert.Kernel.Ring.run m g h))

/-- The reference runs and leaves its arguments as they were; it has no semaphore. -/
theorem frame_reference : Cert.quiescent_ReferenceIdeal :=
  fun m g _ => (θ_run _ _ _).mono (fun r hr => ⟨fun c => (hr c).2.2.2, sem_eq_zero_of_no_sems rfl r.2⟩)
    (Cert.ReferenceIdeal.Value.run (F := Ideal) m g)

/-- The kernel's three results are the reference's, over the extended reals. -/
theorem values : Cert.algebraic_KernelIdeal_ReferenceIdeal := fun m g m' g' h ha => by
  have hp : ∀ (c : Dev Cert.Kernel.nD) q p, (Cert.Kernel.Value.probes m c (ix2 q p)).toNat < 11000 := fun c q p => by
    rw [ix2_eq_valueIdx]
    exact Cert.Kernel.Ring.probe_lt c h q p
  refine ⟨fun c => (Cert.Kernel.Ring.dats m 0 c).arrAt (3 : Fin 6) (Cert.Kernel.Ring.cfgm m).N,
    fun c => (Cert.Kernel.Ring.dats m 0 c).arrAt (4 : Fin 6) (Cert.Kernel.Ring.cfgm m).N,
    fun c => (Cert.Kernel.Ring.dats m 0 c).arrAt (5 : Fin 6) (Cert.Kernel.Ring.cfgm m).N, ?_, ?_⟩
  · exact Cert.Same.run_same m g _ ((θ_run _ _ _).mono
      (fun _ hr c => ⟨(hr.1 c).1.1, (hr.1 c).1.2.1, (hr.1 c).1.2.2, (hr.1 c).2⟩) (Cert.Kernel.Ring.run m g h))
  · refine (θ_run _ _ _).mono (fun r hr c => ?_) (Cert.ReferenceIdeal.Value.run (F := Ideal) m' g')
    obtain ⟨h0, h1, h2, h3, h4⟩ := ha c
    exact ⟨(hr c).1.trans (Cert.Agree.final_coarse m c _ _ _ _ (hp c) h0 h1 h2 h4),
      (hr c).2.1.trans (Cert.Agree.final_tab m c _ _ _ h0 h1 h3),
      (hr c).2.2.1.trans (Cert.Agree.final_rot m c _ _ h0 h1), (hr c).2.2.2⟩

theorem claim : Cert.Claim :=
  ⟨Cert.Kernel.Gen.facts, Cert.KernelIdeal.Gen.facts, Cert.ReferenceIdeal.Gen.facts, Cert.Pre_ids_in_range.Gen.facts,
    frame_kernel, frame_kernelIdeal, frame_reference, fun m g _ => frame_reference m g trivial, trivial, values⟩

end Cert.Proof

end
